-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S4x1500x512 : Shape := ⟨3, ![4, 1500, 512]⟩
abbrev S4 : Shape := ⟨1, ![4]⟩
abbrev S4x1500 : Shape := ⟨2, ![4, 1500]⟩
abbrev S512x512 : Shape := ⟨2, ![512, 512]⟩
abbrev S512 : Shape := ⟨1, ![512]⟩
abbrev S_ : Shape := ⟨0, ![]⟩

class Facts : Prop where
  bcast_S_S4x1500x512 : S_.BroadcastsInDim S4x1500x512 (![] : Fin 0 → Fin S4x1500x512.rank)
  reducesTo_S4x1500x512_S_d0_1_2 : S4x1500x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S4 : S_.BroadcastsInDim S4 (![] : Fin 0 → Fin S4.rank)
  reducesTo_S4_S_d0 : S4.ReducesTo [0] S_

variable [Facts]

def fn_part1 {F : FTy → Type} [FloatOps F] (main_arg1 : FVec F S4 .f32) (main_arg15 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg15
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_cst_8 : FVec F S_ .f32 := constant S_ .f32 0xC9742400#32
  let main_v24 : FVec F S4 .f32 := broadcastInDim S4 ![] bcast_S_S4 main_cst_8
  let main_v25 : IVec S4 1 := cmpf .oge main_arg1 main_v24
  let main_c_9 : IVec S_ 1 := constantI S_ 1 1#1
  let main_v26 : IVec S_ 1 := (fun x v => Host.reduce IntOp.andi x v reducesTo_S4_S_d0 h_S_) main_v25 main_c_9
  let main_v27 : IVec S_ 1 := andi main_v23 main_v26
  main_v27

def fn {F : FTy → Type} [FloatOps F] (main_arg0 : FVec F S4x1500x512 .f32) (main_arg1 : FVec F S4 .f32) (main_arg2 : FVec F S4x1500 .f32) (main_arg3 : FVec F S512x512 .f32) (main_arg4 : FVec F S512 .f32) (main_arg5 : FVec F S512x512 .f32) (main_arg6 : FVec F S512 .f32) (main_arg7 : FVec F S512x512 .f32) (main_arg8 : FVec F S512x512 .f32) (main_arg9 : FVec F S_ .f32) (main_arg10 : FVec F S512 .f32) (main_arg11 : FVec F S512x512 .f32) (main_arg12 : FVec F S512x512 .f32) (main_arg13 : FVec F S512x512 .f32) (main_arg14 : FVec F S512 .f32) (main_arg15 : FVec F S512 .f32) : IVec S_ 1 :=
  let main_v0 : FVec F S4x1500x512 .f32 := Host.absf main_arg0
  let main_cst : FVec F S_ .f32 := constant S_ .f32 0x7F800000#32
  let main_v1 : FVec F S4x1500x512 .f32 := broadcastInDim S4x1500x512 ![] bcast_S_S4x1500x512 main_cst
  let main_v2 : IVec S4x1500x512 1 := cmpf .olt main_v0 main_v1
  let main_c : IVec S_ 1 := constantI S_ 1 1#1
  let main_v3 : IVec S_ 1 := (fun x v => Host.reduce IntOp.andi x v reducesTo_S4x1500x512_S_d0_1_2 h_S_) main_v2 main_c
  let main_v4 : FVec F S512x512 .f32 := Host.absf main_arg11
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg10
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg14
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg15 main_v13 main_v16
-- ==== Kernel.lean ====
abbrev S4x1500x512 : Shape := ⟨3, ![4, 1500, 512]⟩
abbrev S4 : Shape := ⟨1, ![4]⟩
abbrev S4x1500 : Shape := ⟨2, ![4, 1500]⟩
abbrev S512x512 : Shape := ⟨2, ![512, 512]⟩
abbrev S512 : Shape := ⟨1, ![512]⟩
abbrev S_ : Shape := ⟨0, ![]⟩
abbrev S4x1x1500 : Shape := ⟨3, ![4, 1, 1500]⟩
abbrev S4x1x1 : Shape := ⟨3, ![4, 1, 1]⟩
abbrev S1x1 : Shape := ⟨2, ![1, 1]⟩
abbrev S1x512 : Shape := ⟨2, ![1, 512]⟩
abbrev S512x8x64 : Shape := ⟨3, ![512, 8, 64]⟩
abbrev S512x8 : Shape := ⟨2, ![512, 8]⟩
abbrev S512x128 : Shape := ⟨2, ![512, 128]⟩
abbrev S1x1500x512 : Shape := ⟨3, ![1, 1500, 512]⟩
abbrev S1x1x1500 : Shape := ⟨3, ![1, 1, 1500]⟩
abbrev S1x1x1 : Shape := ⟨3, ![1, 1, 1]⟩
abbrev S1500x512 : Shape := ⟨2, ![1500, 512]⟩
abbrev S1500 : Shape := ⟨1, ![1500]⟩
abbrev S1500x1 : Shape := ⟨2, ![1500, 1]⟩
abbrev S1499x512 : Shape := ⟨2, ![1499, 512]⟩
abbrev S1500x128 : Shape := ⟨2, ![1500, 128]⟩
abbrev S36x128 : Shape := ⟨2, ![36, 128]⟩
abbrev S1536x128 : Shape := ⟨2, ![1536, 128]⟩
abbrev S128x1536 : Shape := ⟨2, ![128, 1536]⟩
abbrev S1x1536 : Shape := ⟨2, ![1, 1536]⟩
abbrev S1x1500 : Shape := ⟨2, ![1, 1500]⟩
abbrev S1x36 : Shape := ⟨2, ![1, 36]⟩
abbrev S1 : Shape := ⟨1, ![1]⟩
abbrev S128 : Shape := ⟨1, ![128]⟩
abbrev S1x128 : Shape := ⟨2, ![1, 128]⟩
abbrev S128x512 : Shape := ⟨2, ![128, 512]⟩
abbrev S128x1500 : Shape := ⟨2, ![128, 1500]⟩
abbrev S128x128 : Shape := ⟨2, ![128, 128]⟩
abbrev S1x128x512 : Shape := ⟨3, ![1, 128, 512]⟩
abbrev S92x512 : Shape := ⟨2, ![92, 512]⟩
abbrev S1x92x512 : Shape := ⟨3, ![1, 92, 512]⟩

abbrev nBuf : Space → Nat
  | .hbm => 43
  | .vmem => 20
  | .smem => 0
  | _ => 0

abbrev bufTy : (tb : Table) → Fin (tcTables nBuf tb) → BufTy
  | .hbm, ⟨0, _⟩ => ⟨S4x1500x512, .f32⟩
  | .hbm, ⟨1, _⟩ => ⟨S4, .f32⟩
  | .hbm, ⟨2, _⟩ => ⟨S4x1500, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S_, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512, .f32⟩
  | .hbm, ⟨15, _⟩ => ⟨S512, .f32⟩
  | .hbm, ⟨16, _⟩ => ⟨S4x1x1500, .f32⟩
  | .hbm, ⟨17, _⟩ => ⟨S4x1x1, .f32⟩
  | .hbm, ⟨18, _⟩ => ⟨S1x1, .f32⟩
  | .hbm, ⟨19, _⟩ => ⟨S512x512, .f32⟩
  | .hbm, ⟨20, _⟩ => ⟨S1x512, .f32⟩
  | .hbm, ⟨21, _⟩ => ⟨S512x512, .f32⟩
  | .hbm, ⟨22, _⟩ => ⟨S512x512, .f32⟩
  | .hbm, ⟨23, _⟩ => ⟨S512x8x64, .f32⟩
  | .hbm, ⟨24, _⟩ => ⟨S_, .f32⟩
  | .hbm, ⟨25, _⟩ => ⟨S512x8, .f32⟩
  | .hbm, ⟨26, _⟩ => ⟨S_, .f32⟩
  | .hbm, ⟨27, _⟩ => ⟨S512x8, .f32⟩
  | .hbm, ⟨28, _⟩ => ⟨S512x8, .f32⟩
  | .hbm, ⟨29, _⟩ => ⟨S_, .i32⟩
  | .hbm, ⟨30, _⟩ => ⟨S_, .f32⟩
  | .hbm, ⟨31, _⟩ => ⟨S512x128, .f32⟩
  | .hbm, ⟨32, _⟩ => ⟨S512x512, .f32⟩
  | .hbm, ⟨33, _⟩ => ⟨S1x512, .f32⟩
  | .hbm, ⟨34, _⟩ => ⟨S512x512, .f32⟩
  | .hbm, ⟨35, _⟩ => ⟨S1x512, .f32⟩
  | .hbm, ⟨36, _⟩ => ⟨S512x512, .f32⟩
  | .hbm, ⟨37, _⟩ => ⟨S512x512, .f32⟩
  | .hbm, ⟨38, _⟩ => ⟨S1x512, .f32⟩
  | .hbm, ⟨39, _⟩ => ⟨S1x512, .f32⟩
  | .hbm, ⟨40, _⟩ => ⟨S512x512, .f32⟩
  | .hbm, ⟨41, _⟩ => ⟨S512x512, .f32⟩
  | .hbm, ⟨42, _⟩ => ⟨S4x1500x512, .f32⟩
  | .local _ .vmem, ⟨0, _⟩ => ⟨S1x1500x512, .f32⟩
  | .local _ .vmem, ⟨1, _⟩ => ⟨S1x1500x512, .f32⟩
  | .local _ .vmem, ⟨2, _⟩ => ⟨S1x1x1500, .f32⟩
  | .local _ .vmem, ⟨3, _⟩ => ⟨S1x1x1500, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | .local _ .vmem, ⟨7, _⟩ => ⟨S512x512, .f32⟩
  | .local _ .vmem, ⟨8, _⟩ => ⟨S1x512, .f32⟩
  | .local _ .vmem, ⟨9, _⟩ => ⟨S512x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | .local _ .vmem, ⟨15, _⟩ => ⟨S512x128, .f32⟩
  | .local _ .vmem, ⟨16, _⟩ => ⟨S512x512, .f32⟩
  | .local _ .vmem, ⟨17, _⟩ => ⟨S512x512, .f32⟩
  | .local _ .vmem, ⟨18, _⟩ => ⟨S1x1500x512, .f32⟩
  | .local _ .vmem, ⟨19, _⟩ => ⟨S1x1500x512, .f32⟩
  | _, _ => ⟨S4x1500x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_call0_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1500x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1500x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S4x1500x512 : Shape := ⟨3, ![4, 1500, 512]⟩
abbrev S4 : Shape := ⟨1, ![4]⟩
abbrev S4x1500 : Shape := ⟨2, ![4, 1500]⟩
abbrev S512x512 : Shape := ⟨2, ![512, 512]⟩
abbrev S512 : Shape := ⟨1, ![512]⟩
abbrev S_ : Shape := ⟨0, ![]⟩
abbrev S4x1499x512 : Shape := ⟨3, ![4, 1499, 512]⟩
abbrev S4x1499 : Shape := ⟨2, ![4, 1499]⟩
abbrev S4x1499x1 : Shape := ⟨3, ![4, 1499, 1]⟩
abbrev S1x1x512 : Shape := ⟨3, ![1, 1, 512]⟩
abbrev S1500 : Shape := ⟨1, ![1500]⟩
abbrev S4x1 : Shape := ⟨2, ![4, 1]⟩
abbrev S1x1500 : Shape := ⟨2, ![1, 1500]⟩
abbrev S4x1500x1 : Shape := ⟨3, ![4, 1500, 1]⟩
abbrev S1x1x1500 : Shape := ⟨3, ![1, 1, 1500]⟩
abbrev S4x1500x1500 : Shape := ⟨3, ![4, 1500, 1500]⟩
abbrev S4x1500x8x64 : Shape := ⟨4, ![4, 1500, 8, 64]⟩
abbrev S8x64 : Shape := ⟨2, ![8, 64]⟩
abbrev S8x4x1500 : Shape := ⟨3, ![8, 4, 1500]⟩
abbrev S4x8x1500 : Shape := ⟨3, ![4, 8, 1500]⟩
abbrev S4x1x1500x1500 : Shape := ⟨4, ![4, 1, 1500, 1500]⟩
abbrev S4x8x1x1500 : Shape := ⟨4, ![4, 8, 1, 1500]⟩
abbrev S4x8x1500x1500 : Shape := ⟨4, ![4, 8, 1500, 1500]⟩
abbrev S4x1x1500 : Shape := ⟨3, ![4, 1, 1500]⟩
abbrev S4x1x1500x1 : Shape := ⟨4, ![4, 1, 1500, 1]⟩
abbrev S4x8x1500x1 : Shape := ⟨4, ![4, 8, 1500, 1]⟩
abbrev S4x8x64x1500 : Shape := ⟨4, ![4, 8, 64, 1500]⟩

abbrev nBuf : Space → Nat
  | .hbm => 325
  | .vmem => 0
  | .smem => 0
  | _ => 0

abbrev hbmTy0_0 (i : Nat) : BufTy := match i % 128 with
  | 0 => ⟨S4x1500x512, .f32⟩
  | 1 => ⟨S4, .f32⟩
  | 2 => ⟨S4x1500, .f32⟩
  | 3 => ⟨S512x512, .f32⟩
  | 4 => ⟨S512, .f32⟩
  | 5 => ⟨S512x512, .f32⟩
  | 6 => ⟨S512, .f32⟩
  | 7 => ⟨S512x512, .f32⟩
  | 8 => ⟨S512x512, .f32⟩
  | 9 => ⟨S_, .f32⟩
  | 10 => ⟨S512, .f32⟩
  | 11 => ⟨S512x512, .f32⟩
  | 12 => ⟨S512x512, .f32⟩
  | 13 => ⟨S512x512, .f32⟩
  | 14 => ⟨S512, .f32⟩
  | 15 => ⟨S512, .f32⟩
  | 16 => ⟨S4x1499x512, .f32⟩
  | 17 => ⟨S4x1499x512, .f32⟩
  | 18 => ⟨S_, .f32⟩
  | 19 => ⟨S4x1499, .f32⟩
  | 20 => ⟨S4x1499x1, .f32⟩
  | 21 => ⟨S4x1499x1, .f32⟩
  | 22 => ⟨S_, .f32⟩
  | 23 => ⟨S4x1499x1, .f32⟩
  | 24 => ⟨S4x1499x1, .f32⟩
  | 25 => ⟨S4x1499x512, .f32⟩
  | 26 => ⟨S4x1499x512, .f32⟩
  | 27 => ⟨S512x512, .f32⟩
  | 28 => ⟨S4x1499x512, .f32⟩
  | 29 => ⟨S1x1x512, .f32⟩
  | 30 => ⟨S4x1499x512, .f32⟩
  | 31 => ⟨S4x1499x512, .f32⟩
  | 32 => ⟨S_, .f32⟩
  | 33 => ⟨S4x1499x512, .f32⟩
  | 34 => ⟨S4x1499x512, .f32⟩
  | 35 => ⟨S4x1499x512, .f32⟩
  | 36 => ⟨S_, .f32⟩
  | 37 => ⟨S4x1499x512, .f32⟩
  | 38 => ⟨S4x1499x512, .f32⟩
  | 39 => ⟨S4x1499x512, .f32⟩
  | 40 => ⟨S4x1499x512, .f32⟩
  | 41 => ⟨S512x512, .f32⟩
  | 42 => ⟨S4x1499x512, .f32⟩
  | 43 => ⟨S1x1x512, .f32⟩
  | 44 => ⟨S4x1499x512, .f32⟩
  | 45 => ⟨S4x1499x512, .f32⟩
  | 46 => ⟨S4x1499x512, .f32⟩
  | 47 => ⟨S4x1499x512, .f32⟩
  | 48 => ⟨S_, .f32⟩
  | 49 => ⟨S4x1499, .f32⟩
  | 50 => ⟨S4x1499x1, .f32⟩
  | 51 => ⟨S4x1499x1, .f32⟩
  | 52 => ⟨S_, .f32⟩
  | 53 => ⟨S4x1499x1, .f32⟩
  | 54 => ⟨S4x1499x1, .f32⟩
  | 55 => ⟨S4x1499x512, .f32⟩
  | 56 => ⟨S4x1499x512, .f32⟩
  | 57 => ⟨S512x512, .f32⟩
  | 58 => ⟨S4x1499x512, .f32⟩
  | 59 => ⟨S4x1499x512, .f32⟩
  | 60 => ⟨S4x1499x512, .f32⟩
  | 61 => ⟨S_, .f32⟩
  | 62 => ⟨S4x1499, .f32⟩
  | 63 => ⟨S4x1499x1, .f32⟩
  | 64 => ⟨S4x1499x1, .f32⟩
  | 65 => ⟨S_, .f32⟩
  | 66 => ⟨S4x1499x1, .f32⟩
  | 67 => ⟨S4x1499x1, .f32⟩
  | 68 => ⟨S4x1499x512, .f32⟩
  | 69 => ⟨S4x1499x512, .f32⟩
  | 70 => ⟨S512x512, .f32⟩
  | 71 => ⟨S4x1499x512, .f32⟩
  | 72 => ⟨S1x1x512, .f32⟩
  | 73 => ⟨S4x1499x512, .f32⟩
  | 74 => ⟨S4x1499x512, .f32⟩
  | 75 => ⟨S_, .f32⟩
  | 76 => ⟨S4x1499x512, .f32⟩
  | 77 => ⟨S4x1499x512, .f32⟩
  | 78 => ⟨S4x1499x512, .f32⟩
  | 79 => ⟨S_, .f32⟩
  | 80 => ⟨S4x1499x512, .f32⟩
  | 81 => ⟨S4x1499x512, .f32⟩
  | 82 => ⟨S4x1499x512, .f32⟩
  | 83 => ⟨S4x1499x512, .f32⟩
  | 84 => ⟨S512x512, .f32⟩
  | 85 => ⟨S4x1499x512, .f32⟩
  | 86 => ⟨S1x1x512, .f32⟩
  | 87 => ⟨S4x1499x512, .f32⟩
  | 88 => ⟨S4x1499x512, .f32⟩
  | 89 => ⟨S4x1499x512, .f32⟩
  | 90 => ⟨S4x1499x512, .f32⟩
  | 91 => ⟨S_, .f32⟩
  | 92 => ⟨S4x1499, .f32⟩
  | 93 => ⟨S4x1499x1, .f32⟩
  | 94 => ⟨S4x1499x1, .f32⟩
  | 95 => ⟨S_, .f32⟩
  | 96 => ⟨S4x1499x1, .f32⟩
  | 97 => ⟨S4x1499x1, .f32⟩
  | 98 => ⟨S4x1499x512, .f32⟩
  | 99 => ⟨S4x1499x512, .f32⟩
  | 100 => ⟨S512x512, .f32⟩
  | 101 => ⟨S4x1499x512, .f32⟩
  | 102 => ⟨S4x1499x512, .f32⟩
  | 103 => ⟨S_, .f32⟩
  | 104 => ⟨S4x1499, .f32⟩
  | 105 => ⟨S4x1499, .f32⟩
  | 106 => ⟨S4x1499, .f32⟩
  | 107 => ⟨S_, .f32⟩
  | 108 => ⟨S4x1499, .f32⟩
  | 109 => ⟨S4x1499, .f32⟩
  | 110 => ⟨S_, .f32⟩
  | 111 => ⟨S4x1499, .f32⟩
  | 112 => ⟨S4x1499, .f32⟩
  | 113 => ⟨S_, .f32⟩
  | 114 => ⟨S_, .f32⟩
  | 115 => ⟨S_, .f32⟩
  | 116 => ⟨S4x1499, .f32⟩
  | 117 => ⟨S4x1499, .f32⟩
  | 118 => ⟨S_, .f32⟩
  | 119 => ⟨S4x1499, .f32⟩
  | 120 => ⟨S4x1499, .f32⟩
  | 121 => ⟨S_, .i32⟩
  | 122 => ⟨S_, .f32⟩
  | 123 => ⟨S4x1500, .f32⟩
  | 124 => ⟨S_, .f32⟩
  | 125 => ⟨S_, .f32⟩
  | 126 => ⟨S_, .f32⟩
  | 127 => ⟨S4x1500, .f32⟩
  | _ => ⟨S4x1500x512, .f32⟩

abbrev hbmTy0_1 (i : Nat) : BufTy := match i % 128 with
  | 0 => ⟨S4x1500, .f32⟩
  | 1 => ⟨S_, .f32⟩
  | 2 => ⟨S4x1500, .f32⟩
  | 3 => ⟨S4x1500, .f32⟩
  | 4 => ⟨S_, .f32⟩
  | 5 => ⟨S_, .f32⟩
  | 6 => ⟨S_, .f32⟩
  | 7 => ⟨S4x1500, .f32⟩
  | 8 => ⟨S4x1500, .f32⟩
  | 9 => ⟨S_, .f32⟩
  | 10 => ⟨S4x1500, .f32⟩
  | 11 => ⟨S4x1500, .f32⟩
  | 12 => ⟨S4x1500, .f32⟩
  | 13 => ⟨S4x1500, .f32⟩
  | 14 => ⟨S4x1500, .f32⟩
  | 15 => ⟨S4x1500, .f32⟩
  | 16 => ⟨S4x1500, .f32⟩
  | 17 => ⟨S4x1500, .f32⟩
  | 18 => ⟨S4x1500, .f32⟩
  | 19 => ⟨S4x1500, .f32⟩
  | 20 => ⟨S4x1500, .f32⟩
  | 21 => ⟨S4x1500, .f32⟩
  | 22 => ⟨S4x1500, .f32⟩
  | 23 => ⟨S_, .f32⟩
  | 24 => ⟨S4x1500, .f32⟩
  | 25 => ⟨S4x1500, .f32⟩
  | 26 => ⟨S_, .f32⟩
  | 27 => ⟨S4x1500, .f32⟩
  | 28 => ⟨S4x1500, .f32⟩
  | 29 => ⟨S_, .f32⟩
  | 30 => ⟨S4x1500, .f32⟩
  | 31 => ⟨S4x1500, .i1⟩
  | 32 => ⟨S4x1500, .f32⟩
  | 33 => ⟨S1500, .i32⟩
  | 34 => ⟨S_, .f32⟩
  | 35 => ⟨S4, .f32⟩
  | 36 => ⟨S4, .f32⟩
  | 37 => ⟨S4, .i32⟩
  | 38 => ⟨S_, .i32⟩
  | 39 => ⟨S4, .i32⟩
  | 40 => ⟨S4, .i32⟩
  | 41 => ⟨S_, .i32⟩
  | 42 => ⟨S4, .i32⟩
  | 43 => ⟨S4, .i32⟩
  | 44 => ⟨S_, .i32⟩
  | 45 => ⟨S4, .i32⟩
  | 46 => ⟨S4, .i1⟩
  | 47 => ⟨S4x1, .i1⟩
  | 48 => ⟨S1x1500, .i32⟩
  | 49 => ⟨S4x1, .i32⟩
  | 50 => ⟨S4x1500, .i32⟩
  | 51 => ⟨S4x1500, .i32⟩
  | 52 => ⟨S4x1500, .i1⟩
  | 53 => ⟨S4x1500, .i1⟩
  | 54 => ⟨S4x1500, .i1⟩
  | 55 => ⟨S1x1500, .i32⟩
  | 56 => ⟨S4x1, .i32⟩
  | 57 => ⟨S4x1500, .i32⟩
  | 58 => ⟨S4x1500, .i32⟩
  | 59 => ⟨S4x1500, .i1⟩
  | 60 => ⟨S4x1500, .i1⟩
  | 61 => ⟨S4x1500, .i1⟩
  | 62 => ⟨S_, .f32⟩
  | 63 => ⟨S_, .f32⟩
  | 64 => ⟨S4x1500, .f32⟩
  | 65 => ⟨S4x1500, .f32⟩
  | 66 => ⟨S_, .f32⟩
  | 67 => ⟨S_, .f32⟩
  | 68 => ⟨S4x1500, .f32⟩
  | 69 => ⟨S4x1500, .f32⟩
  | 70 => ⟨S_, .f32⟩
  | 71 => ⟨S_, .f32⟩
  | 72 => ⟨S4x1500, .f32⟩
  | 73 => ⟨S4x1500, .f32⟩
  | 74 => ⟨S_, .f32⟩
  | 75 => ⟨S_, .f32⟩
  | 76 => ⟨S4x1500, .f32⟩
  | 77 => ⟨S4x1500, .f32⟩
  | 78 => ⟨S4x1500, .f32⟩
  | 79 => ⟨S4x1500, .f32⟩
  | 80 => ⟨S_, .f32⟩
  | 81 => ⟨S4, .f32⟩
  | 82 => ⟨S_, .f32⟩
  | 83 => ⟨S4, .f32⟩
  | 84 => ⟨S4, .i1⟩
  | 85 => ⟨S4x1, .i1⟩
  | 86 => ⟨S1x1500, .i32⟩
  | 87 => ⟨S_, .i32⟩
  | 88 => ⟨S4, .i32⟩
  | 89 => ⟨S4, .i32⟩
  | 90 => ⟨S4x1, .i32⟩
  | 91 => ⟨S4x1500, .i32⟩
  | 92 => ⟨S4x1500, .i32⟩
  | 93 => ⟨S4x1500, .i1⟩
  | 94 => ⟨S4x1500, .i1⟩
  | 95 => ⟨S4x1500, .i1⟩
  | 96 => ⟨S_, .f32⟩
  | 97 => ⟨S_, .f32⟩
  | 98 => ⟨S4x1500, .f32⟩
  | 99 => ⟨S4x1500, .f32⟩
  | 100 => ⟨S_, .f32⟩
  | 101 => ⟨S_, .f32⟩
  | 102 => ⟨S4x1500, .f32⟩
  | 103 => ⟨S4x1500, .f32⟩
  | 104 => ⟨S1x1500, .i32⟩
  | 105 => ⟨S_, .f32⟩
  | 106 => ⟨S4, .f32⟩
  | 107 => ⟨S4, .f32⟩
  | 108 => ⟨S4, .i32⟩
  | 109 => ⟨S4x1, .i32⟩
  | 110 => ⟨S4x1500, .i32⟩
  | 111 => ⟨S4x1500, .i32⟩
  | 112 => ⟨S4x1500, .i1⟩
  | 113 => ⟨S4x1500x1, .f32⟩
  | 114 => ⟨S1x1x1500, .i32⟩
  | 115 => ⟨S1x1x1500, .f32⟩
  | 116 => ⟨S4x1500x1500, .f32⟩
  | 117 => ⟨S4x1500x1500, .f32⟩
  | 118 => ⟨S4x1500x1500, .i1⟩
  | 119 => ⟨S4x1500x1, .i1⟩
  | 120 => ⟨S4x1500x1500, .i1⟩
  | 121 => ⟨S4x1500x1500, .i1⟩
  | 122 => ⟨S_, .f32⟩
  | 123 => ⟨S4x1500, .f32⟩
  | 124 => ⟨S4x1500x1, .f32⟩
  | 125 => ⟨S_, .f32⟩
  | 126 => ⟨S4x1500x1, .f32⟩
  | 127 => ⟨S4x1500x1, .f32⟩
  | _ => ⟨S4x1500x512, .f32⟩

abbrev hbmTy0_2 (i : Nat) : BufTy := match i % 128 with
  | 0 => ⟨S4x1500x512, .f32⟩
  | 1 => ⟨S4x1500x512, .f32⟩
  | 2 => ⟨S4x1500x512, .f32⟩
  | 3 => ⟨S_, .f32⟩
  | 4 => ⟨S4x1500, .f32⟩
  | 5 => ⟨S4x1500x1, .f32⟩
  | 6 => ⟨S_, .f32⟩
  | 7 => ⟨S4x1500x1, .f32⟩
  | 8 => ⟨S4x1500x1, .f32⟩
  | 9 => ⟨S_, .f32⟩
  | 10 => ⟨S4x1500x1, .f32⟩
  | 11 => ⟨S4x1500x1, .f32⟩
  | 12 => ⟨S4x1500x1, .f32⟩
  | 13 => ⟨S4x1500x512, .f32⟩
  | 14 => ⟨S4x1500x512, .f32⟩
  | 15 => ⟨S1x1x512, .f32⟩
  | 16 => ⟨S4x1500x512, .f32⟩
  | 17 => ⟨S4x1500x512, .f32⟩
  | 18 => ⟨S1x1x512, .f32⟩
  | 19 => ⟨S4x1500x512, .f32⟩
  | 20 => ⟨S4x1500x512, .f32⟩
  | 21 => ⟨S512x512, .f32⟩
  | 22 => ⟨S4x1500x512, .f32⟩
  | 23 => ⟨S4x1500x8x64, .f32⟩
  | 24 => ⟨S512x512, .f32⟩
  | 25 => ⟨S4x1500x512, .f32⟩
  | 26 => ⟨S4x1500x8x64, .f32⟩
  | 27 => ⟨S8x64, .f32⟩
  | 28 => ⟨S8x4x1500, .f32⟩
  | 29 => ⟨S4x8x1500, .f32⟩
  | 30 => ⟨S_, .f32⟩
  | 31 => ⟨S4x8x1500, .f32⟩
  | 32 => ⟨S4x8x1500, .f32⟩
  | 33 => ⟨S4x1500x1500, .i1⟩
  | 34 => ⟨S4x1x1500x1500, .i1⟩
  | 35 => ⟨S4x8x1x1500, .f32⟩
  | 36 => ⟨S_, .f32⟩
  | 37 => ⟨S_, .f32⟩
  | 38 => ⟨S4x8x1500x1500, .i1⟩
  | 39 => ⟨S4x8x1500x1500, .f32⟩
  | 40 => ⟨S4x8x1500x1500, .f32⟩
  | 41 => ⟨S4x8x1500x1500, .f32⟩
  | 42 => ⟨S_, .i1⟩
  | 43 => ⟨S4x1x1500, .i1⟩
  | 44 => ⟨S4x1x1500x1, .i1⟩
  | 45 => ⟨S_, .f32⟩
  | 46 => ⟨S4x8x1500, .f32⟩
  | 47 => ⟨S_, .f32⟩
  | 48 => ⟨S4x8x1500, .f32⟩
  | 49 => ⟨S4x8x1500, .f32⟩
  | 50 => ⟨S4x8x1500x1, .f32⟩
  | 51 => ⟨S4x8x1500x1500, .f32⟩
  | 52 => ⟨S4x8x1500x1500, .f32⟩
  | 53 => ⟨S4x8x1500x1500, .f32⟩
  | 54 => ⟨S_, .f32⟩
  | 55 => ⟨S4x8x1500, .f32⟩
  | 56 => ⟨S4x8x1500x1, .f32⟩
  | 57 => ⟨S4x8x1500x1500, .f32⟩
  | 58 => ⟨S4x8x1500x1500, .f32⟩
  | 59 => ⟨S_, .f32⟩
  | 60 => ⟨S_, .f32⟩
  | 61 => ⟨S4x8x1500x1500, .i1⟩
  | 62 => ⟨S4x8x1500x1500, .f32⟩
  | 63 => ⟨S4x8x1500x1500, .f32⟩
  | 64 => ⟨S4x8x64x1500, .f32⟩
  | 65 => ⟨S4x1500x8x64, .f32⟩
  | 66 => ⟨S4x1500x512, .f32⟩
  | 67 => ⟨S512x512, .f32⟩
  | 68 => ⟨S4x1500x512, .f32⟩
  | _ => ⟨S4x1500x512, .f32⟩

abbrev hbmTy (i : Nat) : BufTy := match i / 128 with
  | 0 => hbmTy0_0 i
  | 1 => hbmTy0_1 i
  | 2 => hbmTy0_2 i
  | _ => ⟨S4x1500x512, .f32⟩

abbrev bufTy : (tb : Table) → Fin (tcTables nBuf tb) → BufTy
  | .hbm, ⟨i, _⟩ => hbmTy i
  | _, _ => ⟨S4x1500x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_9 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_11 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_cst_15 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_v82 : Ref sig .tc := ⟨.hbm, 120, rfl⟩
abbrev main_c : Ref sig .tc := ⟨.hbm, 121, rfl⟩
abbrev main_call1_v0 : Ref sig .tc := ⟨.hbm, 122, rfl⟩
abbrev main_v83 : Ref sig .tc := ⟨.hbm, 123, rfl⟩
abbrev main_cst_16 : Ref sig .tc := ⟨.hbm, 124, rfl⟩
abbrev main_cst_17 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_v84 : Ref sig .tc := ⟨.hbm, 131, rfl⟩
abbrev main_cst_18 : Ref sig .tc := ⟨.hbm, 132, rfl⟩
abbrev main_cst_19 : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_20 : Ref sig .tc := ⟨.hbm, 151, rfl⟩
abbrev main_v97 : Ref sig .tc := ⟨.hbm, 152, rfl⟩
abbrev main_v98 : Ref sig .tc := ⟨.hbm, 153, rfl⟩
abbrev main_cst_21 : Ref sig .tc := ⟨.hbm, 154, rfl⟩
abbrev main_v99 : Ref sig .tc := ⟨.hbm, 155, rfl⟩
abbrev main_v100 : Ref sig .tc := ⟨.hbm, 156, rfl⟩
abbrev main_cst_22 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_23 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_c_24 : Ref sig .tc := ⟨.hbm, 166, rfl⟩
abbrev main_v108 : Ref sig .tc := ⟨.hbm, 167, rfl⟩
abbrev main_v109 : Ref sig .tc := ⟨.hbm, 168, rfl⟩
abbrev main_c_25 : Ref sig .tc := ⟨.hbm, 169, rfl⟩
abbrev main_v110 : Ref sig .tc := ⟨.hbm, 170, rfl⟩
abbrev main_v111 : Ref sig .tc := ⟨.hbm, 171, rfl⟩
abbrev main_c_26 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_cst_27 : Ref sig .tc := ⟨.hbm, 190, rfl⟩
abbrev main_call4_v0 : Ref sig .tc := ⟨.hbm, 191, rfl⟩
abbrev main_call4_v1 : Ref sig .tc := ⟨.hbm, 192, rfl⟩
abbrev main_v129 : Ref sig .tc := ⟨.hbm, 193, rfl⟩
abbrev main_cst_28 : Ref sig .tc := ⟨.hbm, 194, rfl⟩
abbrev main_call5_v0 : Ref sig .tc := ⟨.hbm, 195, rfl⟩
abbrev main_call5_v1 : Ref sig .tc := ⟨.hbm, 196, rfl⟩
abbrev main_v130 : Ref sig .tc := ⟨.hbm, 197, rfl⟩
abbrev main_cst_29 : Ref sig .tc := ⟨.hbm, 198, rfl⟩
abbrev main_call6_v0 : Ref sig .tc := ⟨.hbm, 199, rfl⟩
abbrev main_call6_v1 : Ref sig .tc := ⟨.hbm, 200, rfl⟩
abbrev main_v131 : Ref sig .tc := ⟨.hbm, 201, rfl⟩
abbrev main_cst_30 : Ref sig .tc := ⟨.hbm, 202, rfl⟩
abbrev main_call7_v0 : Ref sig .tc := ⟨.hbm, 203, rfl⟩
abbrev main_call7_v1 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_cst_31 : Ref sig .tc := ⟨.hbm, 208, rfl⟩
abbrev main_v135 : Ref sig .tc := ⟨.hbm, 209, rfl⟩
abbrev main_cst_32 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_c_33 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_cst_34 : Ref sig .tc := ⟨.hbm, 224, rfl⟩
abbrev main_call8_v0 : Ref sig .tc := ⟨.hbm, 225, rfl⟩
abbrev main_call8_v1 : Ref sig .tc := ⟨.hbm, 226, rfl⟩
abbrev main_v148 : Ref sig .tc := ⟨.hbm, 227, rfl⟩
abbrev main_call9_call0_cst : Ref sig .tc := ⟨.hbm, 228, rfl⟩
abbrev main_call9_call0_v0 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_cst_35 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_cst_36 : Ref sig .tc := ⟨.hbm, 250, rfl⟩
abbrev main_v168 : Ref sig .tc := ⟨.hbm, 251, rfl⟩
abbrev main_v169 : Ref sig .tc := ⟨.hbm, 252, rfl⟩
abbrev main_cst_37 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_cst_38 : Ref sig .tc := ⟨.hbm, 259, rfl⟩
abbrev main_v175 : Ref sig .tc := ⟨.hbm, 260, rfl⟩
abbrev main_v176 : Ref sig .tc := ⟨.hbm, 261, rfl⟩
abbrev main_cst_39 : Ref sig .tc := ⟨.hbm, 262, rfl⟩
abbrev main_v177 : Ref sig .tc := ⟨.hbm, 263, rfl⟩
abbrev main_v178 : Ref sig .tc := ⟨.hbm, 264, rfl⟩
abbrev main_cst_40 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_cst_41 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_cst_42 : Ref sig .tc := ⟨.hbm, 292, rfl⟩
abbrev main_call10_v0 : Ref sig .tc := ⟨.hbm, 293, rfl⟩
abbrev main_call10_v1 : Ref sig .tc := ⟨.hbm, 294, rfl⟩
abbrev main_call10_v2 : Ref sig .tc := ⟨.hbm, 295, rfl⟩
abbrev main_call10_v3 : Ref sig .tc := ⟨.hbm, 296, rfl⟩
abbrev main_v204 : Ref sig .tc := ⟨.hbm, 297, rfl⟩
abbrev main_c_43 : Ref sig .tc := ⟨.hbm, 298, rfl⟩
abbrev main_v205 : Ref sig .tc := ⟨.hbm, 299, rfl⟩
abbrev main_v206 : Ref sig .tc := ⟨.hbm, 300, rfl⟩
abbrev main_cst_44 : Ref sig .tc := ⟨.hbm, 301, rfl⟩
abbrev main_v207 : Ref sig .tc := ⟨.hbm, 302, rfl⟩
abbrev main_cst_45 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_cst_46 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_cst_47 : Ref sig .tc := ⟨.hbm, 315, rfl⟩
abbrev main_call11_v0 : Ref sig .tc := ⟨.hbm, 316, rfl⟩
abbrev main_call11_v1 : Ref sig .tc := ⟨.hbm, 317, rfl⟩
abbrev main_call11_v2 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩

abbrev nD : Nat := 1
abbrev τ : Topo := Topo.v7x

variable {F : FTy → Type} [FloatOps F]
-- ==== Proof.Scalars.lean ====
/- Facts about single extended reals: the constants of the two programs, the error function, the integer part toward
   zero and its conversion to a 32-bit word, the sigmoid. -/
module

public import Idealize.ShloMosaic.Lib.Pointwise
public import Idealize.ShloMosaic.Lib.IdealHost
public import Idealize.ShloMosaic.Lib.WordCmp

@[expose] public section

noncomputable section

namespace Cert.Pool

open Idealize.ShloMosaic

/-! ## Constants -/

/-- Proves that a printed constant word denotes a given real. -/
theorem ofBits_half : Ideal.ofBits .f32 0x3F000000#32 = ((1 / 2 : ℝ) : EReal) := by
  simp [Ideal.ofBits, Ideal.ieee, -EReal.coe_mul]; norm_num

/-- The word of 1/8. -/
theorem ofBits_eighth : Ideal.ofBits .f32 0x3E000000#32 = ((1 / 8 : ℝ) : EReal) := by
  simp [Ideal.ofBits, Ideal.ieee, -EReal.coe_mul]; norm_num

/-- The word of 512. -/
theorem ofBits_512 : Ideal.ofBits .f32 0x44000000#32 = ((512 : ℝ) : EReal) := by
  simp [Ideal.ofBits, Ideal.ieee, -EReal.coe_mul]; norm_num

/-- The word of 1499. -/
theorem ofBits_1499 : Ideal.ofBits .f32 0x44BB6000#32 = ((1499 : ℝ) : EReal) := by
  simp [Ideal.ofBits, Ideal.ieee, -EReal.coe_mul]; norm_num

/-- The word of 1500. -/
theorem ofBits_1500 : Ideal.ofBits .f32 0x44BB8000#32 = ((1500 : ℝ) : EReal) := by
  simp [Ideal.ofBits, Ideal.ieee, -EReal.coe_mul]; norm_num

/-- The word of 1501. -/
theorem ofBits_1501 : Ideal.ofBits .f32 0x44BBA000#32 = ((1501 : ℝ) : EReal) := by
  simp [Ideal.ofBits, Ideal.ieee, -EReal.coe_mul]; norm_num

/-- The word of -1000000. -/
theorem ofBits_neg_million : Ideal.ofBits .f32 0xC9742400#32 = ((-1000000 : ℝ) : EReal) := by
  simp [Ideal.ofBits, Ideal.ieee, -EReal.coe_mul, -EReal.coe_neg]; norm_num

/-- The word of minus infinity. -/
theorem ofBits_neg_inf : Ideal.ofBits .f32 0xFF800000#32 = ⊥ := by
  simp [Ideal.ofBits, Ideal.ieee]

/-- The word of plus infinity. -/
theorem ofBits_inf : Ideal.ofBits .f32 0x7F800000#32 = ⊤ := by
  simp [Ideal.ofBits, Ideal.ieee]

/-- The layernorm's small constant is a positive real. -/
theorem ofBits_eps : ∃ r : ℝ, 0 < r ∧ Ideal.ofBits .f32 0x3727C5AC#32 = (r : EReal) := by
  refine ⟨(2 ^ 23 + 2606508 : ℝ) * (2 : ℝ) ^ (-40 : ℤ), by positivity, ?_⟩
  simp [Ideal.ofBits, Ideal.ieee, -EReal.coe_mul]; norm_num

/-! ## The error function -/

/-- The error function is odd. -/
theorem erf_neg (x : EReal) : Ideal.erf (-x) = -Ideal.erf x := by
  induction x with
  | bot => simp
  | top => simp
  | coe r =>
    rw [← EReal.coe_neg, Ideal.erf_coe, Ideal.erf_coe, ← EReal.coe_neg]
    congr 1
    have h := intervalIntegral.integral_comp_neg (fun t : ℝ => Real.exp (-(t ^ 2))) (a := 0) (b := r)
    simp only [neg_zero, neg_sq] at h
    rw [h, intervalIntegral.integral_symm]
    ring

/-- Gaussian error linear unit: with the error function, and with the complementary one at the opposite argument. -/
theorem gelu_erfc (c m k : EReal) : c * m * Ideal.erfc (-m * k) = c * m * (1 + Ideal.erf (m * k)) := by
  rw [Ideal.erfc, EReal.neg_mul, erf_neg, sub_eq_add_neg, neg_neg]

/-! ## The integer part toward zero -/

/-- The integer part toward zero, as an extended real. -/
def toward (x : EReal) : EReal := if x < 0 then Ideal.liftRound Int.ceil x else Ideal.liftRound Int.floor x

/-- The integer part toward zero, clamped to the signed 32-bit words. -/
def clampI (x : EReal) : ℤ := Ideal.toIntClamped (-2147483648) 2147483647 x

/-- The integer part toward zero of a real number. -/
theorem toward_coe (r : ℝ) : toward r = (((if r < 0 then ⌈r⌉ else ⌊r⌋ : ℤ) : ℝ) : EReal) := by
  unfold toward
  by_cases h : r < 0
  · rw [if_pos (by exact_mod_cast h), if_pos h]; rfl
  · rw [if_neg (by exact_mod_cast h), if_neg h]; rfl

/-- The clamped integer part of a real number. -/
theorem clampI_coe (r : ℝ) : clampI r = max (-2147483648) (min 2147483647 (if r < 0 then ⌈r⌉ else ⌊r⌋)) := by
  unfold clampI
  rw [Ideal.toIntClamped_coe]
  by_cases h : r < 0
  · rw [if_neg (not_le.mpr h), if_pos h]
  · rw [if_pos (not_lt.mp h), if_neg h]

/-- The clamped integer part is at most the greatest word. -/
theorem clampI_le (x : EReal) : clampI x ≤ 2147483647 := by
  induction x with
  | bot => simp [clampI]
  | top => simp [clampI]
  | coe r => rw [clampI_coe]; omega

/-- The clamped integer part is at least the least word. -/
theorem le_clampI (x : EReal) : -2147483648 ≤ clampI x := by
  induction x with
  | bot => simp [clampI]
  | top => simp [clampI]
  | coe r => rw [clampI_coe]; omega

/-- The conversion to a signed word holds the clamped integer part. -/
theorem fptosi_toInt (x : EReal) : (Ideal.fptosi 32 x).toInt = clampI x := by
  have h1 := clampI_le x
  have h2 := le_clampI x
  have : Ideal.fptosi 32 x = BitVec.ofInt 32 (clampI x) := rfl
  rw [this, BitVec.toInt_ofInt, Int.bmod_eq_of_le] <;> omega

/-- A natural number is below the integer part of `x` exactly when it is below its clamped integer part. -/
theorem lt_toward (l : ℕ) (hl : l < 2147483647) (x : EReal) : ((l : ℝ) : EReal) < toward x ↔ (l : ℤ) < clampI x := by
  induction x with
  | bot => simp [clampI, toward]
  | top =>
    have h : ((l : ℝ) : EReal) < ⊤ := EReal.coe_lt_top _
    simp only [clampI, toward, not_top_lt, if_false, Ideal.liftRound_top, Ideal.toIntClamped_top, h, true_iff]
    omega
  | coe r =>
    rw [toward_coe, clampI_coe, EReal.coe_lt_coe_iff]
    generalize (if r < 0 then ⌈r⌉ else ⌊r⌋ : ℤ) = n
    have : ((l : ℝ) < (n : ℝ)) ↔ ((l : ℤ) < n) := by exact_mod_cast Iff.rfl
    rw [this]; omega

/-- The number of valid tokens: the integer part less one, capped at 1500, is the same of the clamped integer part as
long as the argument is not too far below zero. -/
theorem valid_eq (x : EReal) (hx : ((-2000000000 : ℝ) : EReal) ≤ x) :
    min (toward x - 1) ((1500 : ℝ) : EReal) = (((min (clampI x - 1) 1500 : ℤ) : ℝ) : EReal) := by
  induction x with
  | bot => simp at hx
  | top =>
    have h : (⊤ : EReal) - 1 = ⊤ := EReal.top_sub_coe 1
    simp [clampI, toward, h]
  | coe r =>
    have hr : (-2000000000 : ℝ) ≤ r := by exact_mod_cast hx
    have hn : (-2000000000 : ℤ) ≤ (if r < 0 then ⌈r⌉ else ⌊r⌋ : ℤ) := by
      split
      · have := Int.le_ceil r
        have h2 : (-2000000000 : ℝ) ≤ ⌈r⌉ := hr.trans this
        exact_mod_cast h2
      · exact Int.le_floor.mpr (by exact_mod_cast hr)
    rw [toward_coe, clampI_coe]
    generalize (if r < 0 then ⌈r⌉ else ⌊r⌋ : ℤ) = n at hn ⊢
    have : min (((n : ℝ) : EReal) - 1) ((1500 : ℝ) : EReal) = (((min (n - 1) 1500 : ℤ) : ℝ) : EReal) := by
      rw [← EReal.coe_one, ← EReal.coe_sub, ← EReal.coe_strictMono.monotone.map_min]; push_cast; rfl
    rw [this]
    congr 2
    omega

/-- A number not below -2000000000 has a clamped integer part not below it. -/
theorem neg_le_clampI (x : EReal) (hx : ((-2000000000 : ℝ) : EReal) ≤ x) : -2000000000 ≤ clampI x := by
  induction x with
  | bot => simp at hx
  | top => simp [clampI]
  | coe r =>
    have hr : (-2000000000 : ℝ) ≤ r := by exact_mod_cast hx
    rw [clampI_coe]
    have hn : (-2000000000 : ℤ) ≤ (if r < 0 then ⌈r⌉ else ⌊r⌋ : ℤ) := by
      split
      · have h2 : (-2000000000 : ℝ) ≤ ⌈r⌉ := hr.trans (Int.le_ceil r)
        exact_mod_cast h2
      · exact Int.le_floor.mpr (by exact_mod_cast hr)
    omega

/-- A length that is at least minus one million stays in range when scaled. -/
theorem scaled_ge (x : EReal) (hx : ((-1000000 : ℝ) : EReal) ≤ x) : ((-2000000000 : ℝ) : EReal) ≤ x * ((1501 : ℝ) : EReal) := by
  induction x with
  | bot => simp at hx
  | top => rw [EReal.top_mul_coe_of_pos (by norm_num)]; exact le_top
  | coe r =>
    have hr : (-1000000 : ℝ) ≤ r := by exact_mod_cast hx
    rw [← EReal.coe_mul, EReal.coe_le_coe_iff]
    linarith

/-! ## Words and bits -/

/-- The lesser of two words, read signed. -/
theorem minsi_toInt (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- A small natural number survives as a signed word. -/
theorem ofNat_toInt (l : ℕ) (h : l < 2147483648) : (BitVec.ofNat 32 l).toInt = l :=
  WordCmp.toInt_ofNat_of_lt (by omega)

/-- A small natural number as a word equals a word exactly when it is that word's signed value. -/
theorem ofNat_eq_iff (l : ℕ) (h : l < 2147483648) (x : BitVec 32) : BitVec.ofNat 32 l = x ↔ (l : ℤ) = x.toInt := by
  rw [← BitVec.toInt_inj, ofNat_toInt l h]

/-- Selecting by a decided proposition. -/
theorem select_ofBool {α : Type} (p : Prop) [Decidable p] (a b : α) :
    Scalar.select (BitVec.ofBool (decide p)) a b = if p then a else b := by
  by_cases h : p <;> simp [h, Scalar.select]

/-- A decided proposition as a number. -/
theorem uitofp_ofBool (p : Prop) [Decidable p] :
    FloatOps.uitofp (F := Ideal) .f32 (BitVec.ofBool (decide p)) = if p then (1 : EReal) else 0 := by
  change (((BitVec.ofBool (decide p)).toNat : ℝ) : EReal) = _
  by_cases hp : p <;> simp [hp]

/-- The conversion of a small natural number, held in a word, to a float. -/
theorem sitofp_ofNat (l : ℕ) (h : l < 2147483648) :
    FloatOps.sitofp (F := Ideal) .f32 (BitVec.ofNat 32 l) = ((l : ℝ) : EReal) := by
  change (((BitVec.ofNat 32 l).toInt : ℝ) : EReal) = _
  rw [ofNat_toInt l h]; simp

/-! ## The sigmoid -/

/-- The sigmoid is a real number everywhere. -/
theorem logistic_real (x : EReal) : ∃ r : ℝ, Ideal.logistic x = r := by
  induction x with
  | bot => exact ⟨0, by simp⟩
  | top => exact ⟨1, by simp⟩
  | coe r => exact ⟨_, Ideal.logistic_coe r⟩

/-- Subtracting a real number and adding it back changes nothing. -/
theorem sub_add_real (a : EReal) (r : ℝ) : a - r + r = a := by
  induction a with
  | bot => simp
  | top => simp
  | coe q => rw [← EReal.coe_sub, ← EReal.coe_add, sub_add_cancel]

end Cert.Pool

end
-- ==== Proof.Prefix.lean ====
/- Prefix sums: the doubling scan of the kernel computes, at every lane, the sum of the lanes up to it. -/
module

public import proofs.«01_k».proof.Proof.Scalars

@[expose] public section

noncomputable section

namespace Cert.Pool

open Idealize.ShloMosaic

/-- The sum of the last `n` entries of `f` up to the entry `j` (all of them if there are fewer). -/
def wsum (f : ℕ → EReal) (n j : ℕ) : EReal := ∑ i ∈ Finset.range (min n (j + 1)), f (j - i)

/-- The sum over one lane is the lane. -/
theorem wsum_one (f : ℕ → EReal) (j : ℕ) : wsum f 1 j = f j := by
  have : min 1 (j + 1) = 1 := by omega
  simp [wsum, this]

/-- One doubling: a window of twice the length is the window and the one `n` entries before it. -/
theorem wsum_double (f : ℕ → EReal) (n j : ℕ) :
    wsum f (2 * n) j = wsum f n j + (if j < n then 0 else wsum f n (j - n)) := by
  unfold wsum
  by_cases h : j < n
  · have h1 : min (2 * n) (j + 1) = j + 1 := by omega
    have h2 : min n (j + 1) = j + 1 := by omega
    rw [if_pos h, h1, h2, add_zero]
  · have h1 : min (2 * n) (j + 1) = n + min n (j - n + 1) := by omega
    have h2 : min n (j + 1) = n := by omega
    rw [if_neg h, h1, h2, Finset.sum_range_add]
    congr 1
    exact Finset.sum_congr rfl fun i _ => by rw [Nat.sub_sub]

/-- A window longer than the entry's index takes the whole prefix. -/
theorem wsum_all (f : ℕ → EReal) (n j : ℕ) (h : j < n) : wsum f n j = ∑ i ∈ Finset.range (j + 1), f i := by
  have h1 : min n (j + 1) = j + 1 := by omega
  rw [wsum, h1, ← Finset.sum_range_reflect]
  exact Finset.sum_congr rfl fun i hi => by
    have := Finset.mem_range.mp hi
    congr 1; omega

/-- A function on `n` lanes as a function on all numbers, zero past the lanes. -/
def ext {n : ℕ} (f : Fin n → EReal) (i : ℕ) : EReal := if h : i < n then f ⟨i, h⟩ else 0

/-- Below the lanes' number the extension is the function. -/
theorem ext_lt {n : ℕ} (f : Fin n → EReal) (i : ℕ) (h : i < n) : ext f i = f ⟨i, h⟩ := dif_pos h

/-- At a lane the extension is the function. -/
theorem ext_val {n : ℕ} (f : Fin n → EReal) (i : Fin n) : ext f i = f i := dif_pos i.2

/-- Past the lanes the extension is zero. -/
theorem ext_ge {n : ℕ} (f : Fin n → EReal) (i : ℕ) (h : n ≤ i) : ext f i = 0 := dif_neg (by omega)

/-- The sum over the lanes of a longer vector that is zero past `n` lanes is the sum over the `n` lanes. -/
theorem sum_ext {n m : ℕ} (hnm : n ≤ m) (f : Fin n → EReal) : ∑ k : Fin m, ext f k = ∑ k : Fin n, f k := by
  rw [Fin.sum_univ_eq_sum_range (ext f) m]
  rw [← Finset.sum_subset (Finset.range_subset_range.mpr hnm)
    (fun i _ hi => ext_ge f i (by simpa using hi))]
  rw [← Fin.sum_univ_eq_sum_range (ext f) n]
  exact Finset.sum_congr rfl fun k _ => ext_val f k

end Cert.Pool

end
-- ==== Proof.Pool.lean ====
/- The attention pooling of one segment and one head: the kernel's quotient of two sums, taken with weights shifted by
   one common maximum, is the reference's sum of normalized weights, shifted by the segment's own maximum. -/
module

public import proofs.«01_k».proof.Proof.Scalars

@[expose] public section

noncomputable section

namespace Cert.Pool

open Idealize.ShloMosaic

/-- A nonnegative real factor distributes over a finite sum of extended reals. -/
theorem sum_mul_real {ι : Type*} (s : Finset ι) (c : ℝ) (hc : 0 ≤ c) (f : ι → EReal) :
    ∑ l ∈ s, f l * (c : EReal) = (∑ l ∈ s, f l) * (c : EReal) := by
  classical
  induction s using Finset.induction with
  | empty => simp
  | insert a s ha ih =>
    rw [Finset.sum_insert ha, Finset.sum_insert ha, ih,
      EReal.right_distrib_of_nonneg_of_ne_top (by exact_mod_cast hc) (EReal.coe_ne_top c)]

/-- A finite sum of real numbers, taken in the extended reals. -/
theorem coe_sum {ι : Type*} (s : Finset ι) (f : ι → ℝ) : ((∑ l ∈ s, f l : ℝ) : EReal) = ∑ l ∈ s, (f l : EReal) := by
  classical
  induction s using Finset.induction with
  | empty => simp
  | insert a s ha ih => rw [Finset.sum_insert ha, Finset.sum_insert ha, EReal.coe_add, ih]

variable {n : ℕ} (M : Fin n → Prop) [DecidablePred M] (β : Fin n → ℝ) (v : Fin n → EReal)

/-- The weight of entry `l` shifted by `g`: the exponential on the segment, zero off it. -/
def wt (g : ℝ) (l : Fin n) : ℝ := if M l then Real.exp (β l - g) else 0

/-- A weight is not negative. -/
theorem wt_nonneg (g : ℝ) (l : Fin n) : 0 ≤ wt M β g l := by
  unfold wt; split
  · exact (Real.exp_pos _).le
  · exact le_rfl

/-- A change of shift multiplies every weight by the same positive factor. -/
theorem wt_shift (g g' : ℝ) (l : Fin n) : wt M β g l = wt M β g' l * Real.exp (g' - g) := by
  unfold wt; split
  · rw [← Real.exp_add]; congr 1; ring
  · simp

/-- The weights of a segment with a token have a positive sum. -/
theorem wt_sum_pos (g : ℝ) (h : ∃ l, M l) : 0 < ∑ l, wt M β g l := by
  obtain ⟨l, hl⟩ := h
  refine Finset.sum_pos' (fun i _ => wt_nonneg M β g i) ⟨l, Finset.mem_univ l, ?_⟩
  rw [wt, if_pos hl]; exact Real.exp_pos _

/-- The weights of a segment without a token add up to zero. -/
theorem wt_sum_zero (g : ℝ) (h : ¬ ∃ l, M l) : ∑ l, wt M β g l = 0 :=
  Finset.sum_eq_zero fun l _ => if_neg fun hl => h ⟨l, hl⟩

/-- The kernel's pooled value: the weighted sum over the sum of weights, zero where there is no weight. -/
def pooledK (g : ℝ) : EReal :=
  let num := ∑ l, (wt M β g l : EReal) * v l
  let den := ∑ l, (wt M β g l : EReal)
  if 0 < den then Ideal.div num (if 0 < den then den else 1) else 0

/-- The reference's pooled value: the sum with normalized weights, zero for an empty segment. -/
def pooledR (g : ℝ) : EReal :=
  ∑ l, (if ∃ l, M l then Ideal.div (wt M β g l) (∑ k, (wt M β g k : EReal)) else 0) * v l

/-- The two pooled values are equal, whatever the two shifts and the values pooled. -/
theorem pooled_eq (g g' : ℝ) : pooledK M β v g = pooledR M β v g' := by
  unfold pooledK pooledR
  simp only [← coe_sum]
  by_cases h : ∃ l, M l
  · have hP := wt_sum_pos M β g h
    have hP' := wt_sum_pos M β g' h
    have hpos : (0 : EReal) < ((∑ l, wt M β g l : ℝ) : EReal) := by exact_mod_cast hP
    simp only [hpos, if_true, h]
    rw [Ideal.div_coe hP.ne', ← sum_mul_real _ _ (by positivity)]
    refine Finset.sum_congr rfl fun l _ => ?_
    rw [Ideal.div_coe hP'.ne', mul_right_comm, ← EReal.coe_mul, ← EReal.coe_mul]
    congr 2
    have hs : ∑ k, wt M β g k = (∑ k, wt M β g' k) * Real.exp (g' - g) := by
      rw [Finset.sum_mul]; exact Finset.sum_congr rfl fun k _ => wt_shift M β g g' k
    rw [hs, wt_shift M β g g' l]
    have := Real.exp_pos (g' - g)
    field_simp
  · rw [wt_sum_zero M β g h]
    simp [h]

/-- The maximum of finitely many values, none of them plus infinity and one of them not minus infinity, is real. -/
theorem fold_max_real (f : Fin n → EReal) (l : Fin n) (h0 : f l ≠ ⊥) (h : ∀ k, f k ≠ ⊤) :
    ∃ g : ℝ, Finset.univ.fold max ⊥ f = g := by
  have e : Finset.univ.fold max ⊥ f = Finset.univ.sup f := rfl
  have h1 : Finset.univ.sup f ≠ ⊤ :=
    ne_of_lt ((Finset.sup_lt_iff (by simp)).mpr fun k _ => lt_top_iff_ne_top.mpr (h k))
  have h2 : Finset.univ.sup f ≠ ⊥ := fun hb => h0 (le_bot_iff.mp (hb ▸ Finset.le_sup (Finset.mem_univ l)))
  rw [e]
  exact ⟨_, (EReal.coe_toReal h1 h2).symm⟩

/-- The maximum of the scores of a segment that is not empty is real. -/
theorem masked_max (h : ∃ l, M l) :
    ∃ g : ℝ, Finset.univ.fold max ⊥ (fun l => if M l then (β l : EReal) else ⊥) = g := by
  obtain ⟨l, hl⟩ := h
  refine fold_max_real _ l ?_ fun k => ?_
  · rw [if_pos hl]; exact EReal.coe_ne_bot _
  · split
    · exact EReal.coe_ne_top _
    · exact bot_ne_top

/-- The exponential of a shifted masked score is the weight. -/
theorem exp_masked (g : ℝ) (l : Fin n) :
    Ideal.exp ((if M l then (β l : EReal) else ⊥) - (g : EReal)) = (wt M β g l : EReal) := by
  unfold wt
  split
  · rw [← EReal.coe_sub, Ideal.exp_coe]
  · rw [EReal.bot_sub, Ideal.exp_bot, EReal.coe_zero]

end Cert.Pool

end
-- ==== Proof.Spec.lean ====
/- The mathematics both programs compute, over extended reals: row functions of one batch entry. A matrix `W` is read
   as `W k j` with `k` the input and `j` the output coordinate. -/
module

public import proofs.«01_k».proof.Proof.Prefix
public import proofs.«01_k».proof.Proof.Pool

@[expose] public section

noncomputable section

namespace Cert.Pool

open Idealize.ShloMosaic

/-- A row of `n` entries. -/
abbrev Row (n : ℕ) := Fin n → EReal
/-- A table of `n` rows of `m` entries. -/
abbrev Tab (n m : ℕ) := Fin n → Fin m → EReal

/-- A row divided by its Euclidean norm, the norm kept away from zero. -/
def unit (x : Row 512) : Row 512 := fun d =>
  Ideal.div (x d) (max (Ideal.sqrt (∑ k, x k * x k)) (Ideal.ofBits .f32 0x322BCC77#32))

/-- A row times a matrix. -/
def lin {n m : ℕ} (W : Tab n m) (x : Row n) : Row m := fun j => ∑ k, x k * W k j

/-- The Gaussian error linear unit. -/
def gelu (m : EReal) : EReal :=
  Ideal.ofBits .f32 0x3F000000#32 * m * (1 + Ideal.erf (m * Ideal.ofBits .f32 0x3F3504F3#32))

/-- The two-layer network on a unit row, plus the row. -/
def feed (W1 : Tab 512 512) (b1 : Row 512) (W2 : Tab 512 512) (b2 : Row 512) (x : Row 512) : Row 512 := fun d =>
  lin W2 (fun j => gelu (lin W1 (unit x) j + b1 j)) d + b2 d + unit x d

/-- A row encoded: the network's output, normalized again. -/
def enc (W1 : Tab 512 512) (b1 : Row 512) (W2 : Tab 512 512) (b2 : Row 512) (x : Row 512) : Row 512 :=
  unit (feed W1 b1 W2 b2 x)

/-- A probability clipped away from zero and one. -/
def clip (p : EReal) : EReal := min (Ideal.ofBits .f32 0x3F7FFFFE#32) (max (Ideal.ofBits .f32 0x34000000#32) p)

/-- The boundary probability of a similarity `c` with bias `sb`. -/
def prob (c sb : EReal) : EReal := min 1 (max 0 ((1 - (c + sb)) * Ideal.ofBits .f32 0x3F000000#32))

/-- The relaxed draw at clipped probability `p` and clipped noise `u`. -/
def soft (p u : EReal) : EReal :=
  Ideal.logistic (Ideal.log p - Ideal.log1p (-p) + Ideal.log u - Ideal.log1p (-u))

/-- The draw at clipped probability `p` and clipped noise `u`. -/
def draw (p u : EReal) : EReal := if Ideal.ofBits .f32 0x3F000000#32 < soft p u then 1 else 0

/-- The probability of a boundary at token `l`, from the similarity `c l` of tokens `l` and `l + 1`. -/
def pRow (c : ℕ → EReal) (sb : EReal) (l : ℕ) : EReal := clip (if 1499 ≤ l then 0 else prob (c l) sb)

/-- The draw at token `l` with the end of the sequence (`v` valid tokens) marked and nothing after it. -/
def ended (c : ℕ → EReal) (sb : EReal) (u : Row 1500) (v : ℤ) : Row 1500 := fun l =>
  if v < 1500 ∧ (l : ℤ) = v then 1 else if v < 1500 ∧ v ≤ (l : ℤ) then 0 else draw (pRow c sb l) (clip (u l))

/-- The boundaries: if there is none at all, one is put at the end. -/
def bound (c : ℕ → EReal) (sb : EReal) (u : Row 1500) (v : ℤ) : Row 1500 := fun l =>
  if ∑ k, ended c sb u v k = 0 ∧ (l : ℤ) = min v 1499 then 1 else ended c sb u v l

/-- The segment of token `l`: the number of boundaries before it. -/
def segOf (b : Row 1500) : Row 1500 := fun l => (∑ i ∈ Finset.range (l + 1), ext b i) - b l

/-- The mean of a row. -/
def mean (x : Row 512) : EReal := Ideal.div (∑ k, x k) (Ideal.ofBits .f32 0x44000000#32)

/-- Layer normalization of a row. -/
def norm (g b : Row 512) (x : Row 512) : Row 512 := fun d =>
  Ideal.div (x d - mean x)
    (Ideal.sqrt (mean (fun k => (x k - mean x) * (x k - mean x)) + Ideal.ofBits .f32 0x3727C5AC#32)) * g d + b d

end Cert.Pool

end
-- ==== Proof.KerBound.lean ====
/- The kernel's boundary terms read at an index: the encoder, the similarity of neighbouring tokens, the draw, the end
   of the sequence, the doubling scan. -/
module

public import proofs.«01_k».proof.Proof.Spec
public import proofs.«01_k».proof.Proof.Gen.KernelIdeal.Skeleton

@[expose] public section

set_option maxRecDepth 16384

noncomputable section

namespace Cert.KernelIdeal.Gen

open Idealize.ShloMosaic Idealize.ShloMosaic.Pointwise Cert.Pool WordCmp

/-- A matrix block, input coordinate first, as a table. -/
abbrev tab {n m : ℕ} (x : FVec Ideal ⟨2, ![n, m]⟩ .f32) : Tab n m := fun k j => x (ix2 k j)
/-- A one-row block as a row. -/
abbrev row {n : ℕ} (x : FVec Ideal ⟨2, ![1, n]⟩ .f32) : Row n := fun k => x (ix2 0 k)
/-- A one-entry stack of rows as a table. -/
abbrev slab {n m : ℕ} (x : FVec Ideal ⟨3, ![1, n, m]⟩ .f32) : Tab n m := fun l d => x (ix3 0 l d)

/-- An entry of the hidden block as a matrix. -/
theorem pay2_at (x : FVec Ideal S1x1500x512 .f32) (l : Fin 1500) (d : Fin 512) : (k0_pay2 (F := Ideal) x (ix2 l d) : EReal) = slab x l d := by
  unfold k0_pay2
  pointwise

/-- The network's output plus its input. -/
theorem pay3_at (x : FVec Ideal S1x1500x512 .f32) (w1 : FVec Ideal S512x512 .f32) (b1 : FVec Ideal S1x512 .f32)
    (w2 : FVec Ideal S512x512 .f32) (b2 : FVec Ideal S1x512 .f32) (l : Fin 1500) (d : Fin 512) :
    (k0_pay3 (F := Ideal) x w1 b1 w2 b2 (ix2 l d) : EReal) = feed (tab w1) (row b1) (tab w2) (row b2) (slab x l) d := by
  unfold k0_pay3
  pointwise [pay2_at]
  rfl

/-- The length of an encoded row before its normalization, kept away from zero. -/
theorem pay4_at (x : FVec Ideal S1x1500x512 .f32) (w1 : FVec Ideal S512x512 .f32) (b1 : FVec Ideal S1x512 .f32)
    (w2 : FVec Ideal S512x512 .f32) (b2 : FVec Ideal S1x512 .f32) (l : Fin 1500) (z : Fin 1) :
    (k0_pay4 (F := Ideal) x w1 b1 w2 b2 (ix2 l z) : EReal) = max (Ideal.sqrt (∑ k, feed (tab w1) (row b1) (tab w2) (row b2) (slab x l) k
      * feed (tab w1) (row b1) (tab w2) (row b2) (slab x l) k)) (Ideal.ofBits .f32 0x322BCC77#32) := by
  unfold k0_pay4
  pointwise [pay3_at]

/-- The lane's number as a float. -/
theorem pay5_at (z : Fin 1) (j : Fin 1536) : k0_pay5 (F := Ideal) (ix2 z j) = ((j : ℝ) : EReal) := by
  unfold k0_pay5
  pointwise
  exact sitofp_ofNat _ (by omega)

/-- A comparison of a lane number with a constant. -/
theorem lane_le (j n : ℕ) : ((n : ℝ) : EReal) ≤ ((j : ℝ) : EReal) ↔ n ≤ j := by
  rw [EReal.coe_le_coe_iff]; exact_mod_cast Iff.rfl

/-- Numbers compare as floats as they do as numbers. -/
theorem lane_lt (j n : ℕ) : ((j : ℝ) : EReal) < ((n : ℝ) : EReal) ↔ j < n := by
  rw [EReal.coe_lt_coe_iff]; exact_mod_cast Iff.rfl

/-- The clipped boundary probabilities, from the encoded rows `C`. -/
theorem pay6_at (f : FVec Ideal S1500x512 .f32) (n : FVec Ideal S1500x1 .f32) (wq wk : FVec Ideal S512x512 .f32)
    (sb : FVec Ideal S1x1 .f32) (C : Tab 1500 512) (hC : ∀ l d, Ideal.div (f (ix2 l d)) (n (ix2 l 0)) = C l d)
    (c : ℕ → EReal) (hc : ∀ l (h : l < 1499), c l = ∑ j, lin (tab wq) (C ⟨l, by omega⟩) j * lin (tab wk) (C ⟨l + 1, by omega⟩) j)
    (z : Fin 1) (j : Fin 1536) : k0_pay6 f n wq wk sb (ix2 z j) = pRow c (sb (ix2 0 0)) j := by
  unfold k0_pay6
  pointwise [pay5_at, hC]
  unfold pRow clip prob
  rw [ofBits_1499]
  have e : (((1499 : ℝ) : EReal) ≤ ((((j : ℕ) : ℝ)) : EReal)) ↔ 1499 ≤ (j : ℕ) := by exact_mod_cast lane_le (j : ℕ) 1499
  by_cases h : (j : ℕ) < 1499
  · simp only [e, not_le.mpr h, if_false, h, dif_pos, show (j : ℕ) < 1500 by omega, hc, lin, Nat.add_comm 1]
  · simp only [e, not_lt.mp h, if_true]

/-- The draws. -/
theorem pay7_at (p : FVec Ideal S1x1536 .f32) (u : FVec Ideal S1x1x1500 .f32) (j : Fin 1500) :
    (k0_pay7 (F := Ideal) p u (ix2 0 ⟨j, by omega⟩) : EReal) = draw (p (ix2 0 ⟨j, by omega⟩)) (clip (u (ix3 0 0 j))) := by
  unfold k0_pay7
  pointwise
  simp only [sub_eq_add_neg, zero_add]
  rfl

/-- The number of valid tokens. -/
theorem pay9_at (x : FVec Ideal S1x1x1 .f32) : (k0_pay9 (F := Ideal) x (ix2 0 0) : EReal)
    = min (toward (x (ix3 0 0 0) * Ideal.ofBits .f32 0x44BBA000#32) - 1) ((1500 : ℝ) : EReal) := by
  unfold k0_pay9 k0_pay8
  pointwise
  rw [ofBits_1500]
  rfl

/-- The boundaries before one is put at the end, on the padded row. -/
def endT (d : FVec Ideal S1x1536 .f32) (x : FVec Ideal S1x1x1 .f32) : FVec Ideal S1x1536 .f32 :=
  select (cmpf .oge k0_pay5 (broadcast S1x1536 (Scalar.ofBits (F := Ideal) .f32 0x44BB8000#32)))
    (broadcast S1x1536 (Scalar.ofBits (F := Ideal) .f32 0x00000000#32))
    (select (andi (broadcastTo S1x1536 (k0_pay10 (F := Ideal) x) broadcasts_S1x1_S1x1536)
        (cmpf .oeq k0_pay5 (broadcastTo S1x1536 (k0_pay9 (F := Ideal) x) broadcasts_S1x1_S1x1536)))
      (broadcast S1x1536 (Scalar.ofBits (F := Ideal) .f32 0x3F800000#32))
      (select (andi (broadcastTo S1x1536 (k0_pay10 (F := Ideal) x) broadcasts_S1x1_S1x1536) (cmpf .oge k0_pay5 (k0_pay11 (F := Ideal) x)))
        (broadcast S1x1536 (Scalar.ofBits (F := Ideal) .f32 0x00000000#32)) d))

/-- The lanes after the end of the sequence is applied, zero past the last token. -/
theorem endT_at (d : FVec Ideal S1x1536 .f32) (x : FVec Ideal S1x1x1 .f32) (v : ℤ)
    (hv : (k0_pay9 (F := Ideal) x (ix2 0 0) : EReal) = ((v : ℝ) : EReal)) (c : ℕ → EReal) (sb : EReal) (u : Row 1500)
    (hd : ∀ j : Fin 1500, d (ix2 0 ⟨j, by omega⟩) = draw (pRow c sb j) (clip (u j))) (z : Fin 1) (j : Fin 1536) :
    (endT d x (ix2 z j) : EReal) = ext (ended c sb u v) j := by
  unfold endT k0_pay10 k0_pay11
  pointwise [pay5_at]
  simp only [hv, ofBits_1500]
  have e1 := lane_le j 1500
  have e2 : ((v : ℝ) : EReal) < ((1500 : ℝ) : EReal) ↔ v < 1500 := by rw [EReal.coe_lt_coe_iff]; exact_mod_cast Iff.rfl
  have e3 : (((j : ℕ) : ℝ) : EReal) = ((v : ℝ) : EReal) ↔ ((j : ℕ) : ℤ) = v := by
    rw [EReal.coe_eq_coe_iff]; exact_mod_cast Iff.rfl
  have e4 : ((v : ℝ) : EReal) ≤ (((j : ℕ) : ℝ) : EReal) ↔ v ≤ ((j : ℕ) : ℤ) := by
    rw [EReal.coe_le_coe_iff]; exact_mod_cast Iff.rfl
  have e5 : ((1500 : ℝ) : EReal) = (((1500 : ℕ) : ℝ) : EReal) := by norm_num
  by_cases h : 1500 ≤ (j : ℕ)
  · rw [if_pos (by rw [e5]; exact e1.mpr h), ext_ge _ _ h]
  · rw [if_neg (by rw [e5]; exact mt e1.mp h), ext_lt _ _ (by omega)]
    simp only [andi_ofBool, ← Bool.decide_and, Pool.select_ofBool, e2, e3, e4, ended]
    obtain rfl : z = 0 := Subsingleton.elim _ _
    rw [← hd ⟨j, by omega⟩]

/-- The boundaries with the emergency one, zero past the last token. -/
theorem pay12_at (d : FVec Ideal S1x1536 .f32) (x : FVec Ideal S1x1x1 .f32) (v : ℤ)
    (hv : (k0_pay9 (F := Ideal) x (ix2 0 0) : EReal) = ((v : ℝ) : EReal)) (c : ℕ → EReal) (sb : EReal) (u : Row 1500)
    (hd : ∀ j : Fin 1500, d (ix2 0 ⟨j, by omega⟩) = draw (pRow c sb j) (clip (u j))) (z : Fin 1) (j : Fin 1536) :
    (k0_pay12 k0_pay5 d (k0_pay9 (F := Ideal) x) (k0_pay10 (F := Ideal) x) (k0_pay11 (F := Ideal) x) (ix2 z j) : EReal) = ext (bound c sb u v) j := by
  have e : k0_pay12 k0_pay5 d (k0_pay9 (F := Ideal) x) (k0_pay10 (F := Ideal) x) (k0_pay11 (F := Ideal) x) = select (andi (broadcastTo S1x1536 (cmpf .oeq
      (shapeCast S1x1 (multiReduction .add [1] S1 (endT d x) 0x00000000#32 reduces_S1x1536_S1 (.inl rfl) rfl) shapeCasts_S1_S1x1)
      (broadcast S1x1 (Scalar.ofBits (F := Ideal) .f32 0x00000000#32))) broadcasts_S1x1_S1x1536)
      (cmpf .oeq k0_pay5 (broadcastTo S1x1536 (minimumf (k0_pay9 (F := Ideal) x) (broadcast S1x1 (Scalar.ofBits (F := Ideal) .f32 0x44BB6000#32)))
        broadcasts_S1x1_S1x1536))) (broadcast S1x1536 (Scalar.ofBits (F := Ideal) .f32 0x3F800000#32)) (endT d x) := rfl
  rw [e]
  pointwise [pay5_at, endT_at d x v hv c sb u hd]
  simp only [hv, ofBits_1499]
  have e3 : (((j : ℕ) : ℝ) : EReal) = min ((v : ℝ) : EReal) ((1499 : ℝ) : EReal) ↔ ((j : ℕ) : ℤ) = min v 1499 := by
    rw [← EReal.coe_strictMono.monotone.map_min, EReal.coe_eq_coe_iff]; exact_mod_cast Iff.rfl
  have e4 := sum_ext (show 1500 ≤ 1536 by omega) (ended c sb u v)
  simp only [andi_ofBool, ← Bool.decide_and, Pool.select_ofBool, e3, e4]
  by_cases h : (j : ℕ) < 1500
  · rw [ext_lt _ _ h, ext_lt _ _ h]
    rfl
  · rw [ext_ge _ _ (by omega), ext_ge _ _ (by omega), if_neg (by omega)]

/-- One step of the doubling scan, by `d` lanes, `k` the number `d` as a float. -/
def step (d k : BitVec 32) (v : FVec Ideal S1x1536 .f32) : FVec Ideal S1x1536 .f32 :=
  addf v (select (cmpf .olt k0_pay5 (broadcast S1x1536 (Scalar.ofBits (F := Ideal) .f32 k)))
    (broadcast S1x1536 (Scalar.ofBits (F := Ideal) .f32 0x00000000#32)) (dynamicRotate 1 d none v rotates_S1x1536_d1))

/-- One doubling step turns sums over `n` lanes into sums over `2 * n` lanes. -/
theorem step_at (n : ℕ) (d k : BitVec 32) (hn : n < 1536) (hd : d.toNat = n) (hk : Ideal.ofBits .f32 k = ((n : ℝ) : EReal))
    (v : FVec Ideal S1x1536 .f32) (f : ℕ → EReal)
    (hv : ∀ (z : Fin 1) (j : Fin 1536), v (ix2 z j) = wsum f n j) (z : Fin 1) (j : Fin 1536) :
    (step d k v (ix2 z j) : EReal) = wsum f (2 * n) j := by
  unfold step
  pointwise [pay5_at, hv]
  rw [hk, wsum_double, hd, Nat.mod_eq_of_lt hn]
  have e := lane_lt (j : ℕ) n
  by_cases h : (j : ℕ) < n
  · rw [if_pos (e.mpr h), if_pos h]
  · rw [if_neg (mt e.mp h), if_neg h, show (j : ℕ) + 1536 - n = (j - n) + 1536 by omega, Nat.add_mod_right,
      Nat.mod_eq_of_lt (by omega)]

/-- A float whose fraction bits are zero is a power of two. -/
theorem lit (k : BitVec 32) (e n : ℕ) (h1 : (k.extractLsb' 23 8).toNat = 127 + e) (h2 : (k.extractLsb' 0 23).toNat = 0)
    (h3 : k.extractLsb' 31 1 = 0#1) (he : e < 100) (hn : n = 2 ^ e) : Ideal.ofBits .f32 k = ((n : ℝ) : EReal) := by
  subst hn
  have e1 : ¬ (127 + e = 255) := by omega
  have e2 : ¬ (127 + e = 0) := by omega
  simp only [Ideal.ofBits, Ideal.ieee, h1, h2, h3]
  norm_num [e1, -EReal.coe_mul, -EReal.coe_pow]
  rw [zpow_sub₀ (by norm_num), zpow_natCast]
  norm_num [-EReal.coe_mul, -EReal.coe_pow]
  exact_mod_cast congrArg (fun r : ℝ => (r : EReal)) (show (8388608 : ℝ) * (2 ^ e / 8388608) = 2 ^ e by field_simp)

/-- The kernel's segment numbers, from the padded draws and the length. -/
def segT (d : FVec Ideal S1x1536 .f32) (x : FVec Ideal S1x1x1 .f32) : FVec Ideal S1x1500 .f32 :=
  k0_pay20 k0_pay5 (k0_pay12 k0_pay5 d (k0_pay9 (F := Ideal) x) (k0_pay10 (F := Ideal) x) (k0_pay11 (F := Ideal) x))
    (k0_pay17 k0_pay5 (k0_pay13 k0_pay5 d (k0_pay9 (F := Ideal) x) (k0_pay10 (F := Ideal) x) (k0_pay11 (F := Ideal) x))
      (k0_pay14 k0_pay5 d (k0_pay9 (F := Ideal) x) (k0_pay10 (F := Ideal) x) (k0_pay11 (F := Ideal) x)) (k0_pay15 (F := Ideal) k0_pay5) k0_pay16)
    (k0_pay18 k0_pay5 (k0_pay13 k0_pay5 d (k0_pay9 (F := Ideal) x) (k0_pay10 (F := Ideal) x) (k0_pay11 (F := Ideal) x))
      (k0_pay14 k0_pay5 d (k0_pay9 (F := Ideal) x) (k0_pay10 (F := Ideal) x) (k0_pay11 (F := Ideal) x)) (k0_pay15 (F := Ideal) k0_pay5) k0_pay16)
    k0_pay19

/-- The segment numbers are the eleven doubling steps of the boundaries, less the boundaries. -/
theorem segT_eq (d : FVec Ideal S1x1536 .f32) (x : FVec Ideal S1x1x1 .f32) : segT d x =
    extractStridedSlice S1x1500 ![0, 0] (subf (step 1024#32 0x44800000#32 (step 512#32 0x44000000#32 (step 256#32 0x43800000#32
      (step 128#32 0x43000000#32 (step 64#32 0x42800000#32 (step 32#32 0x42000000#32 (step 16#32 0x41800000#32
      (step 8#32 0x41000000#32 (step 4#32 0x40800000#32 (step 2#32 0x40000000#32 (step 1#32 0x3F800000#32
        (k0_pay12 k0_pay5 d (k0_pay9 (F := Ideal) x) (k0_pay10 (F := Ideal) x) (k0_pay11 (F := Ideal) x)))))))))))))
        (k0_pay12 k0_pay5 d (k0_pay9 (F := Ideal) x) (k0_pay10 (F := Ideal) x) (k0_pay11 (F := Ideal) x))) slices_S1x1536_o0_0_S1x1500 := rfl

/-- The doubling scan followed by the subtraction counts the boundaries before each token. -/
theorem segT_at (d : FVec Ideal S1x1536 .f32) (x : FVec Ideal S1x1x1 .f32) (v : ℤ)
    (hv : (k0_pay9 (F := Ideal) x (ix2 0 0) : EReal) = ((v : ℝ) : EReal)) (c : ℕ → EReal) (sb : EReal) (u : Row 1500)
    (hd : ∀ j : Fin 1500, d (ix2 0 ⟨j, by omega⟩) = draw (pRow c sb j) (clip (u j))) (z : Fin 1) (l : Fin 1500) :
    (segT d x (ix2 z l) : EReal) = segOf (bound c sb u v) l := by
  rw [segT_eq]
  have h0 : ∀ (z : Fin 1) (j : Fin 1536), (k0_pay12 k0_pay5 d (k0_pay9 (F := Ideal) x) (k0_pay10 (F := Ideal) x)
      (k0_pay11 (F := Ideal) x) (ix2 z j) : EReal) = wsum (ext (bound c sb u v)) 1 j := fun z j => by
    rw [wsum_one]; exact pay12_at d x v hv c sb u hd z j
  have h := step_at 1024 1024#32 0x44800000#32 (by omega) rfl (lit _ 10 _ rfl rfl rfl (by omega) rfl) _ _ <| step_at 512 512#32 0x44000000#32 (by omega) rfl (lit _ 9 _ rfl rfl rfl (by omega) rfl) _ _ <|
    step_at 256 256#32 0x43800000#32 (by omega) rfl (lit _ 8 _ rfl rfl rfl (by omega) rfl) _ _ <| step_at 128 128#32 0x43000000#32 (by omega) rfl (lit _ 7 _ rfl rfl rfl (by omega) rfl) _ _ <|
    step_at 64 64#32 0x42800000#32 (by omega) rfl (lit _ 6 _ rfl rfl rfl (by omega) rfl) _ _ <| step_at 32 32#32 0x42000000#32 (by omega) rfl (lit _ 5 _ rfl rfl rfl (by omega) rfl) _ _ <|
    step_at 16 16#32 0x41800000#32 (by omega) rfl (lit _ 4 _ rfl rfl rfl (by omega) rfl) _ _ <| step_at 8 8#32 0x41000000#32 (by omega) rfl (lit _ 3 _ rfl rfl rfl (by omega) rfl) _ _ <|
    step_at 4 4#32 0x40800000#32 (by omega) rfl (lit _ 2 _ rfl rfl rfl (by omega) rfl) _ _ <| step_at 2 2#32 0x40000000#32 (by omega) rfl (lit _ 1 _ rfl rfl rfl (by omega) rfl) _ _ <|
    step_at 1 1#32 0x3F800000#32 (by omega) rfl (lit _ 0 _ rfl rfl rfl (by omega) rfl) _ _ h0
  pointwise [h, h0]
  rw [wsum_one, wsum_all _ _ _ (by omega), ext_val]
  rfl

end Cert.KernelIdeal.Gen

end
-- ==== Proof.KerAttn.lean ====
/- The kernel's attention terms read at an index: normalized rows, values, weights, and one block of pooled rows. -/
module

public import proofs.«01_k».proof.Proof.KerBound

@[expose] public section

set_option maxRecDepth 16384

noncomputable section

namespace Cert.KernelIdeal.Gen

open Idealize.ShloMosaic Idealize.ShloMosaic.Pointwise Cert.Pool WordCmp

/-- The number of unmasked tokens. -/
theorem pay21_at (x : FVec Ideal S1x1x1 .f32) : (k0_pay21 (k0_pay8 (F := Ideal) x) (ix2 0 0) : EReal)
    = toward (x (ix3 0 0 0) * Ideal.ofBits .f32 0x44BB8000#32) := by
  unfold k0_pay21 k0_pay8
  pointwise
  rfl

/-- Layer normalization of each row. -/
theorem pay22_at (h : FVec Ideal S1500x512 .f32) (g b : FVec Ideal S1x512 .f32) (l : Fin 1500) (d : Fin 512) :
    (k0_pay22 (F := Ideal) h g b (ix2 l d) : EReal) = norm (row g) (row b) (fun k => h (ix2 l k)) d := by
  unfold k0_pay22
  pointwise
  rfl

/-- An entry of the values: the normalized row through the value matrix. -/
theorem pay23_at (h : FVec Ideal S1500x512 .f32) (w : FVec Ideal S512x512 .f32) (l : Fin 1500) (d : Fin 512) :
    (k0_pay23 (F := Ideal) h w (ix2 l d) : EReal) = lin (tab w) (fun k => h (ix2 l k)) d := by
  unfold k0_pay23
  pointwise
  rfl

/-- A column of weights whose scores are real: each is the exponential of the score less one real shift, zero at a
    masked token. -/
theorem pay24_at (Y : EReal) (y : FVec Ideal S1x1 .f32) (hy : y (ix2 0 0) = toward Y) (h : FVec Ideal S1500x512 .f32)
    (w : FVec Ideal S512x128 .f32) (c : Fin 128) (β : Fin 1500 → ℝ)
    (hβ : ∀ l, lin (tab w) (fun k => h (ix2 l k)) c = ((β l : ℝ) : EReal)) :
    ∃ g : ℝ, ∀ l, (k0_pay24 (F := Ideal) y h w (ix2 l c) : EReal)
      = ((wt (fun l : Fin 1500 => ((l : ℕ) : ℤ) < clampI Y) β g l : ℝ) : EReal) := by
  obtain ⟨g, hg⟩ := fold_max_real (fun l => ((β l : ℝ) : EReal)) 0 (EReal.coe_ne_bot _) fun _ => EReal.coe_ne_top _
  refine ⟨g, fun l => ?_⟩
  unfold k0_pay24
  pointwise
  have hb : ∀ l, ∑ x, h (ix2 l x) * w (ix2 x c) = ((β l : ℝ) : EReal) := hβ
  simp only [hb, ofBits_neg_inf, hg, sitofp_ofNat _ (show (l : ℕ) < 2147483648 by omega), hy,
    lt_toward (l : ℕ) (by omega) Y]
  unfold wt
  split
  · rw [← EReal.coe_sub, Ideal.exp_coe]
  · simp

/-- The words' floor division by 64, as the kernel spells it, is the division of the numbers. -/
theorem head_word (x : Fin 512) :
    Scalar.select (IntOp.andi (IntOp.cmpi CmpIPredicate.ne
              (IntOp.subi (BitVec.setWidth 32 (IntOp.cmpi CmpIPredicate.sgt (BitVec.ofNat 32 ↑x) 0#32))
                (BitVec.setWidth 32 (IntOp.cmpi CmpIPredicate.slt (BitVec.ofNat 32 ↑x) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑x) 64#32) 0#32))
          (IntOp.subi (IntOp.divsi ArithUnit.vector (BitVec.ofNat 32 ↑x) 64#32) 1#32)
          (IntOp.divsi ArithUnit.vector (BitVec.ofNat 32 ↑x) 64#32) = BitVec.ofNat 32 (x / 64) := by
  revert x; decide +kernel

/-- The table that spreads a head's number over the head's columns. -/
def headT : FVec Ideal S128x512 .f32 := k0_pay26 (F := Ideal) k0_pay25 (Scalar.ofBits (F := Ideal) .f32 0x3F800000#32)

/-- The spreading table is 1 at the columns of the head and 0 elsewhere. -/
theorem headT_at (c : Fin 128) (x : Fin 512) : (headT (ix2 c x) : EReal) = if (c : ℕ) = x / 64 then 1 else 0 := by
  unfold headT k0_pay26 k0_pay25
  pointwise
  rw [head_word, cmpi_eq_eq, Pool.select_ofBool]
  refine if_congr ?_ rfl rfl
  rw [ofNat_eq_iff _ (by omega), ofNat_toInt _ (by omega)]
  omega

/-- The rows of a block: `1` where the token's segment is the row. -/
def rowsT (k : BitVec 32) (seg : FVec Ideal S1x1500 .f32) : FVec Ideal S128x1500 .f32 :=
  select (cmpf .oeq (k0_pay28 (F := Ideal)) (broadcastTo S128x1500 (subf seg (broadcast S1x1500 (Scalar.ofBits (F := Ideal) .f32 k)))
    broadcasts_S1x1500_S128x1500)) (broadcast S128x1500 (Scalar.ofBits (F := Ideal) .f32 0x3F800000#32))
    (broadcast S128x1500 (Scalar.ofBits (F := Ideal) .f32 0x00000000#32))

/-- A block's row is 1 at the tokens of its segment and 0 elsewhere. -/
theorem rowsT_at (n : ℕ) (k : BitVec 32) (hk : Ideal.ofBits .f32 k = ((n : ℝ) : EReal)) (seg : FVec Ideal S1x1500 .f32)
    (r : Fin 128) (l : Fin 1500) : (rowsT k seg (ix2 r l) : EReal) = if seg (ix2 0 l) = (((n + r : ℕ) : ℝ) : EReal) then 1 else 0 := by
  unfold rowsT k0_pay28
  pointwise
  rw [hk, sitofp_ofNat _ (by omega)]
  refine if_congr ?_ rfl rfl
  generalize seg (ix2 0 l) = t
  rw [Nat.cast_add]
  induction t using EReal.rec with
  | bot => simp [← EReal.coe_add, ← EReal.coe_natCast, -EReal.coe_natCast]
  | top => simp [← EReal.coe_add, ← EReal.coe_natCast, -EReal.coe_natCast]
  | coe t => rw [← EReal.coe_sub, EReal.coe_eq_coe_iff, EReal.coe_eq_coe_iff]; constructor <;> intro h <;> linarith

/-- The totals of the weights of a block's rows, spread over each head's columns. -/
def denT (m : FVec Ideal S128x1500 .f32) (e : FVec Ideal S1500x128 .f32) (bd : FVec Ideal S128x512 .f32) : FVec Ideal S128x512 .f32 :=
  matmul dot_S128x128_S128x512_S128x512_1_0_0_1_n_n none
    (matmul dot_S128x1500_S1500x128_S128x128_1_0_0_1_n_n none m e (constant S128x128 .f32 0x00000000#32)) bd
    (constant S128x512 .f32 0x00000000#32)

/-- The pooled rows of a block. -/
def poolT (m : FVec Ideal S128x1500 .f32) (e : FVec Ideal S1500x128 .f32) (bd : FVec Ideal S128x512 .f32)
    (ev : FVec Ideal S1500x512 .f32) : FVec Ideal S128x512 .f32 :=
  select (cmpf .ogt (denT m e bd) (broadcast S128x512 (Scalar.ofBits (F := Ideal) .f32 0x00000000#32)))
    (divf (matmul dot_S128x1500_S1500x512_S128x512_1_0_0_1_n_n none m ev (constant S128x512 .f32 0x00000000#32))
      (select (cmpf .ogt (denT m e bd) (broadcast S128x512 (Scalar.ofBits (F := Ideal) .f32 0x00000000#32))) (denT m e bd)
        (broadcast S128x512 (Scalar.ofBits (F := Ideal) .f32 0x3F800000#32))))
    (broadcast S128x512 (Scalar.ofBits (F := Ideal) .f32 0x00000000#32))

/-- The output block of pooled rows. -/
def blockT (p : FVec Ideal S128x512 .f32) (w : FVec Ideal S512x512 .f32) : FVec Ideal S1x128x512 .f32 :=
  shapeCast S1x128x512 (matmul dot_S128x512_S512x512_S128x512_1_0_0_1_n_n none p
    (shapeCast S512x512 w shapeCasts_S512x512_S512x512) (constant S128x512 .f32 0x00000000#32)) shapeCasts_S128x512_S1x128x512

/-- A sum against a head's indicator reads the head's column. -/
theorem sum_head (f : Fin 128 → EReal) (x : Fin 512) : ∑ c, f c * (headT (ix2 c x) : EReal) = f ⟨x / 64, by omega⟩ := by
  rw [Finset.sum_eq_single (⟨x / 64, by omega⟩ : Fin 128)]
  · rw [headT_at, if_pos rfl, mul_one]
  · intro c _ hc
    rw [headT_at, if_neg (fun h => hc (Fin.ext h)), mul_zero]
  · intro h; exact absurd (Finset.mem_univ _) h

/-- An entry of the weighted values: the weight of the column's head times the value. -/
theorem pay27_at (v : FVec Ideal S1500x512 .f32) (e : FVec Ideal S1500x128 .f32) (l : Fin 1500) (x : Fin 512) :
    (k0_pay27 (F := Ideal) v e k0_pay25 (Scalar.ofBits (F := Ideal) .f32 0x3F800000#32) (ix2 l x) : EReal)
      = e (ix2 l ⟨x / 64, by omega⟩) * v (ix2 l x) := by
  have e1 : k0_pay27 (F := Ideal) v e k0_pay25 (Scalar.ofBits (F := Ideal) .f32 0x3F800000#32) =
      mulf (matmul dot_S1500x128_S128x512_S1500x512_1_0_0_1_n_n none e headT (constant S1500x512 .f32 0x00000000#32)) v := rfl
  rw [e1]
  pointwise
  rw [sum_head (fun c => e (ix2 l c))]

/-- A pooled row: where the weights of the row's head are `wt L β g`, the pooled values of the tokens of the segment. -/
theorem poolT_at (m : FVec Ideal S128x1500 .f32) (e : FVec Ideal S1500x128 .f32) (ev : FVec Ideal S1500x512 .f32) (v : Row 1500)
    (S L : Fin 1500 → Prop) [DecidablePred S] [DecidablePred L] (β : Fin 1500 → ℝ) (g : ℝ) (r : Fin 128) (x : Fin 512)
    (hm : ∀ l, (m (ix2 r l) : EReal) = if S l then 1 else 0)
    (he : ∀ l, (e (ix2 l ⟨x / 64, by omega⟩) : EReal) = ((wt L β g l : ℝ) : EReal))
    (hev : ∀ l : Fin 1500, (ev (ix2 l x) : EReal) = e (ix2 l ⟨x / 64, by omega⟩) * v l) :
    (poolT m e headT ev (ix2 r x) : EReal) = pooledK (fun l => S l ∧ L l) β v g := by
  have hw : ∀ l, (m (ix2 r l) : EReal) * ((wt L β g l : ℝ) : EReal) = ((wt (fun l => S l ∧ L l) β g l : ℝ) : EReal) := fun l => by
    rw [hm]; unfold wt
    by_cases h1 : S l <;> by_cases h2 : L l <;> simp [h1, h2]
  have hd : ∀ c : Fin 128, c = ⟨x / 64, by omega⟩ → ∑ l, (m (ix2 r l) : EReal) * e (ix2 l c)
      = ∑ l, ((wt (fun l => S l ∧ L l) β g l : ℝ) : EReal) := by
    rintro c rfl
    exact Finset.sum_congr rfl fun l _ => by rw [he, hw]
  unfold poolT denT
  pointwise [hev]
  rw [sum_head (fun c => ∑ l, m (ix2 r l) * e (ix2 l c)), hd _ rfl]
  have hn : ∑ l, (m (ix2 r l) : EReal) * (e (ix2 l ⟨x / 64, by omega⟩) * v l)
      = ∑ l, ((wt (fun l => S l ∧ L l) β g l : ℝ) : EReal) * v l :=
    Finset.sum_congr rfl fun l _ => by rw [← mul_assoc, he, hw]
  rw [hn]
  rfl

/-- An entry of a block's output: the pooled row through the output matrix. -/
theorem blockT_at (p : FVec Ideal S128x512 .f32) (w : FVec Ideal S512x512 .f32) (z : Fin 1) (r : Fin 128) (n : Fin 512) :
    (blockT p w (ix3 z r n) : EReal) = ∑ x, p (ix2 r x) * tab w x n := by
  unfold blockT
  pointwise

/-- One output block of the kernel, rows `n` on. -/
def tileT (k : BitVec 32) (seg : FVec Ideal S1x1500 .f32) (v : FVec Ideal S1500x512 .f32) (e : FVec Ideal S1500x128 .f32)
    (w : FVec Ideal S512x512 .f32) : FVec Ideal S1x128x512 .f32 :=
  blockT (poolT (rowsT k seg) e headT (k0_pay27 (F := Ideal) v e k0_pay25 (Scalar.ofBits (F := Ideal) .f32 0x3F800000#32))) w

/-- A row of an output block: the pooled rows, through the output matrix. -/
theorem tileT_at (N : ℕ) (k : BitVec 32) (hk : Ideal.ofBits .f32 k = ((N : ℝ) : EReal)) (seg : FVec Ideal S1x1500 .f32)
    (v : FVec Ideal S1500x512 .f32) (e : FVec Ideal S1500x128 .f32) (w : FVec Ideal S512x512 .f32)
    (L : Fin 1500 → Prop) [DecidablePred L] (β : Fin 8 → Fin 1500 → ℝ) (g : Fin 8 → ℝ)
    (he : ∀ (i : Fin 8) l, (e (ix2 l ⟨i, by omega⟩) : EReal) = ((wt L (β i) (g i) l : ℝ) : EReal))
    (z : Fin 1) (r : Fin 128) (n : Fin 512) (s : ℕ) (hs : s = N + r) :
    (tileT k seg v e w (ix3 z r n) : EReal)
      = ∑ x : Fin 512, pooledK (fun l => seg (ix2 0 l) = ((s : ℝ) : EReal) ∧ L l) (β ⟨x / 64, by omega⟩)
          (fun l => v (ix2 l x)) (g ⟨x / 64, by omega⟩) * tab w x n := by
  subst hs
  unfold tileT
  rw [blockT_at]
  refine Finset.sum_congr rfl fun x _ => congrArg (· * _) ?_
  exact poolT_at _ e _ _ _ L _ _ r x (fun l => rowsT_at N k hk seg r l) (fun l => he ⟨x / 64, by omega⟩ l)
    fun l => pay27_at v e l x

end Cert.KernelIdeal.Gen

end
-- ==== Proof.KerOut.lean ====
/- What one grid point of the kernel leaves in its output block, from the point's input blocks. -/
module

public import proofs.«01_k».proof.Proof.KerAttn
public import proofs.«01_k».proof.Proof.Gen.KernelIdeal.Frame
public import Idealize.ShloMosaic.Lib.Pipeline.ValueKit

@[expose] public section

set_option maxRecDepth 16384

noncomputable section

namespace Cert.KernelIdeal.Gen

open Idealize.ShloMosaic Idealize.ShloMosaic.Pointwise Cert.Pool

/-- The blocks' first rows as floats. -/
def rowWord : Fin 12 → BitVec 32 := ![0x00000000#32, 0x43000000#32, 0x43800000#32, 0x43C00000#32, 0x44000000#32, 0x44200000#32, 0x44400000#32, 0x44600000#32, 0x44800000#32, 0x44900000#32, 0x44A00000#32, 0x44B00000#32]

/-- The word of block `i` is the float `128 * i`. -/
theorem rows_lit (i : Fin 12) : Ideal.ofBits .f32 (rowWord i) = (((128 * i : ℕ) : ℝ) : EReal) := by
  fin_cases i <;> simp [rowWord, Ideal.ofBits, Ideal.ieee, -EReal.coe_mul] <;> norm_num

/-- The last block is cut after its first 92 rows. -/
theorem last_at (seg : FVec Ideal S1x1500 .f32) (v : FVec Ideal S1500x512 .f32) (e : FVec Ideal S1500x128 .f32)
    (w : FVec Ideal S512x512 .f32) (z : Fin 1) (r : Fin 92) (n : Fin 512) :
    (k0_pay1 (F := Ideal) e headT (k0_pay27 (F := Ideal) v e k0_pay25 (Scalar.ofBits (F := Ideal) .f32 0x3F800000#32))
      (k0_pay59 seg k0_pay28) k0_pay60 k0_pay61 w (ix3 z r n) : EReal)
      = tileT 0x44B00000#32 seg v e w (ix3 z ⟨r, by omega⟩ n) := by
  have e1 : k0_pay1 (F := Ideal) e headT (k0_pay27 (F := Ideal) v e k0_pay25 (Scalar.ofBits (F := Ideal) .f32 0x3F800000#32))
      (k0_pay59 seg k0_pay28) k0_pay60 k0_pay61 w = shapeCast S1x92x512 (extractStridedSlice S92x512 ![0, 0]
        (matmul dot_S128x512_S512x512_S128x512_1_0_0_1_n_n none (poolT (rowsT 0x44B00000#32 seg) e headT
          (k0_pay27 (F := Ideal) v e k0_pay25 (Scalar.ofBits (F := Ideal) .f32 0x3F800000#32)))
          (shapeCast S512x512 w shapeCasts_S512x512_S512x512) (constant S128x512 .f32 0x00000000#32))
        slices_S128x512_o0_0_S92x512) shapeCasts_S92x512_S1x92x512 := rfl
  rw [e1, tileT, blockT_at]
  pointwise

section Out
variable (x0 : FVec Ideal S1x1500x512 .f32) (x1 : FVec Ideal S1x1x1500 .f32) (x2 : FVec Ideal S1x1x1 .f32)
  (x3 : FVec Ideal S1x1 .f32) (x4 : FVec Ideal S512x512 .f32) (x5 : FVec Ideal S1x512 .f32) (x6 : FVec Ideal S512x512 .f32)
  (x7 : FVec Ideal S1x512 .f32) (x8 x9 : FVec Ideal S512x512 .f32) (x10 x11 : FVec Ideal S1x512 .f32)
  (x12 : FVec Ideal S512x128 .f32) (x13 x14 : FVec Ideal S512x512 .f32)

/-- The segment numbers of the tokens. -/
def segK : FVec Ideal S1x1500 .f32 :=
  segT (k0_pay7 (k0_pay6 (k0_pay3 x0 x4 x5 x6 x7) (k0_pay4 x0 x4 x5 x6 x7) x8 x9 x3) x1) x2
/-- The normalized rows. -/
def hnK : FVec Ideal S1500x512 .f32 := k0_pay22 (k0_pay2 x0) x10 x11
/-- The unnormalized attention weights. -/
def expK : FVec Ideal S1500x128 .f32 := k0_pay24 (k0_pay21 (k0_pay8 (F := Ideal) x2)) (hnK x0 x10 x11) x12
/-- The values. -/
def valK : FVec Ideal S1500x512 .f32 := k0_pay23 (hnK x0 x10 x11) x13

/-- A number is the entry of the output block at `y` if it is every block row's value there. -/
theorem out_tiles (c : Dev nD) (t : Fin cfg0.N) (y : S1x1500x512.Idx) (w : EReal)
  (hw : ∀ (N : ℕ) (k : BitVec 32), Ideal.ofBits .f32 k = ((N : ℝ) : EReal) → ∀ (z : Fin 1) (r : Fin 128) (n : Fin 512), (y 0 : ℕ) = z → (y 1 : ℕ) = N + r → (y 2 : ℕ) = n →
    (tileT k (segK x0 x1 x2 x3 x4 x5 x6 x7 x8 x9) (valK x0 x10 x11 x13) (expK x0 x2 x10 x11 x12) x14 (ix3 z r n) : EReal) = w) :
    out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
      x0 x1 x2 x3 x4 x5 x6 x7 x8 x9 x10 x11 x12 x13 x14 y = w := by
  frame_out
  canon_tiles x h using View.cover_of_tiledBy _ ![1, 4, 512] (by sl_kernel_rfl) y
  case piece0 =>
    rw [eq_ix3 x]
    exact (last_at _ _ _ _ _ _ _).trans (hw 1408 0x44B00000#32 (rows_lit 11) (x 0) ⟨x 1, by omega⟩ (x 2) h0 h1 h2)
  case piece1 => rw [eq_ix3 x]; exact hw 1280 0x44A00000#32 (rows_lit 10) (x 0) (x 1) (x 2) h0 h1 h2
  case piece2 => rw [eq_ix3 x]; exact hw 1152 0x44900000#32 (rows_lit 9) (x 0) (x 1) (x 2) h0 h1 h2
  case piece3 => rw [eq_ix3 x]; exact hw 1024 0x44800000#32 (rows_lit 8) (x 0) (x 1) (x 2) h0 h1 h2
  case piece4 => rw [eq_ix3 x]; exact hw 896 0x44600000#32 (rows_lit 7) (x 0) (x 1) (x 2) h0 h1 h2
  case piece5 => rw [eq_ix3 x]; exact hw 768 0x44400000#32 (rows_lit 6) (x 0) (x 1) (x 2) h0 h1 h2
  case piece6 => rw [eq_ix3 x]; exact hw 640 0x44200000#32 (rows_lit 5) (x 0) (x 1) (x 2) h0 h1 h2
  case piece7 => rw [eq_ix3 x]; exact hw 512 0x44000000#32 (rows_lit 4) (x 0) (x 1) (x 2) h0 h1 h2
  case piece8 => rw [eq_ix3 x]; exact hw 384 0x43C00000#32 (rows_lit 3) (x 0) (x 1) (x 2) h0 h1 h2
  case piece9 => rw [eq_ix3 x]; exact hw 256 0x43800000#32 (rows_lit 2) (x 0) (x 1) (x 2) h0 h1 h2
  case piece10 => rw [eq_ix3 x]; exact hw 128 0x43000000#32 (rows_lit 1) (x 0) (x 1) (x 2) h0 h1 h2
  case piece11 => rw [eq_ix3 x]; exact hw 0 0x00000000#32 (rows_lit 0) (x 0) (x 1) (x 2) h0 (h1.trans (Nat.zero_add _).symm) h2

/-- The kernel's segment number of a token is the mathematics' one. -/
theorem segK_at (h : ((-1000000 : ℝ) : EReal) ≤ x2 (ix3 0 0 0)) (c : ℕ → EReal)
    (hc : ∀ l (h : l < 1499), c l = ∑ j, lin (tab x8) (enc (tab x4) (row x5) (tab x6) (row x7) (slab x0 ⟨l, by omega⟩)) j
      * lin (tab x9) (enc (tab x4) (row x5) (tab x6) (row x7) (slab x0 ⟨l + 1, by omega⟩)) j) (z : Fin 1) (l : Fin 1500) :
    (segK x0 x1 x2 x3 x4 x5 x6 x7 x8 x9 (ix2 z l) : EReal) = segOf (bound c (x3 (ix2 0 0)) (fun k => x1 (ix3 0 0 k))
      (min (clampI (x2 (ix3 0 0 0) * Ideal.ofBits .f32 0x44BBA000#32) - 1) 1500)) l := by
  refine segT_at _ x2 _ ?_ c (x3 (ix2 0 0)) _ (fun j => ?_) z l
  · rw [pay9_at, ofBits_1501]
    exact valid_eq _ (scaled_ge _ h)
  · rw [pay7_at, pay6_at _ _ x8 x9 x3 (fun l => enc (tab x4) (row x5) (tab x6) (row x7) (slab x0 l)) (fun l d => ?_) c hc]
    rw [pay3_at, pay4_at]
    rfl

/-- An entry of the kernel's normalized rows. -/
theorem hnK_at (l : Fin 1500) (d : Fin 512) : (hnK x0 x10 x11 (ix2 l d) : EReal) = norm (row x10) (row x11) (slab x0 l) d := by
  unfold hnK
  rw [pay22_at]
  simp only [pay2_at]

/-- The entry of the output block: the pooled values of the segment's tokens through the output matrix. -/
theorem out_entry (h : ((-1000000 : ℝ) : EReal) ≤ x2 (ix3 0 0 0)) (cs : ℕ → EReal)
    (hc : ∀ l (h : l < 1499), cs l = ∑ j, lin (tab x8) (enc (tab x4) (row x5) (tab x6) (row x7) (slab x0 ⟨l, by omega⟩)) j
      * lin (tab x9) (enc (tab x4) (row x5) (tab x6) (row x7) (slab x0 ⟨l + 1, by omega⟩)) j)
    (β : Fin 8 → Fin 1500 → ℝ)
    (hβ : ∀ (i : Fin 8) l, lin (tab x12) (norm (row x10) (row x11) (slab x0 l)) ⟨i, by omega⟩ = ((β i l : ℝ) : EReal))
    (c : Dev nD) (t : Fin cfg0.N) (y : S1x1500x512.Idx) (s : Fin 1500) (n : Fin 512) (hs : (y 1 : ℕ) = s) (hn : (y 2 : ℕ) = n) :
    out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
      x0 x1 x2 x3 x4 x5 x6 x7 x8 x9 x10 x11 x12 x13 x14 y = ∑ x : Fin 512, pooledR (fun l : Fin 1500 =>
          segOf (bound cs (x3 (ix2 0 0)) (fun k => x1 (ix3 0 0 k))
            (min (clampI (x2 (ix3 0 0 0) * Ideal.ofBits .f32 0x44BBA000#32) - 1) 1500)) l = ((s : ℝ) : EReal)
          ∧ ((l : ℕ) : ℤ) < clampI (x2 (ix3 0 0 0) * Ideal.ofBits .f32 0x44BB8000#32)) (β ⟨x / 64, by omega⟩)
        (fun l => lin (tab x13) (norm (row x10) (row x11) (slab x0 l)) x) 0 * tab x14 x n := by
  have hg := fun i : Fin 8 => pay24_at _ _ (pay21_at x2) (hnK x0 x10 x11) x12 ⟨i, by omega⟩ (β i) (fun l => by
    simp only [hnK_at]; exact hβ i l)
  choose g hg using hg
  refine out_tiles x0 x1 x2 x3 x4 x5 x6 x7 x8 x9 x10 x11 x12 x13 x14 c t y _ fun N k hk z r n' hz hr hn' => ?_
  obtain rfl : n = n' := Fin.ext (hn.symm.trans hn')
  rw [tileT_at N k hk _ _ (expK x0 x2 x10 x11 x12) _ _ β g (fun i l => hg i l) z r n s (hs.symm.trans hr)]
  refine Finset.sum_congr rfl fun x _ => congrArg (· * _) ?_
  rw [pooled_eq _ _ _ _ 0]
  have e1 : ∀ l, (segK x0 x1 x2 x3 x4 x5 x6 x7 x8 x9 (ix2 0 l) : EReal) = _ := fun l =>
    segK_at x0 x1 x2 x3 x4 x5 x6 x7 x8 x9 h cs hc 0 l
  have e2 : ∀ l, (valK x0 x10 x11 x13 (ix2 l x) : EReal) = lin (tab x13) (norm (row x10) (row x11) (slab x0 l)) x := fun l => by
    unfold valK; rw [pay23_at]; simp only [hnK_at]
  simp only [e1, e2]

end Out

end Cert.KernelIdeal.Gen

end
-- ==== Proof.KerReads.lean ====
/- The blocks the kernel reads at a grid point, as entries of the program's arguments: the host prepares transposed
   weights, reshaped rows and the per-head score matrix before the kernel runs. -/
module

public import proofs.«01_k».proof.Proof.KerOut

@[expose] public section

set_option maxRecDepth 16384

noncomputable section

namespace Cert.KernelIdeal.Gen

open Cert.KernelIdeal Cert.Pool Idealize.ShloMosaic Idealize.ShloMosaic.TcCoe Idealize.SL.Sem
open Idealize.ShloMosaic.Pointwise

/-- Each grid point reads its own batch entry of the hidden states, the lengths and the noise, and the whole of every weight. -/
theorem idx : ∀ t : Fin cfg0.N, (win0_0.index t = ![(grid0.coords t 0).val, 0, 0] ∧ win0_1.index t = ![(grid0.coords t 0).val, 0, 0]
    ∧ win0_2.index t = ![(grid0.coords t 0).val, 0, 0] ∧ win0_15.index t = ![(grid0.coords t 0).val, 0, 0])
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] :=
  (by decide +kernel : ∀ t : Fin grid0.N, _)

section Heads

/-- The per-head score matrix: the key matrix's rows of each head weighted by the learned query and added up, scaled,
    with empty columns up to the lane width. -/
def headsT (w : FVec Ideal S512x512 .f32) (q : FVec Ideal S512 .f32) : FVec Ideal S512x128 .f32 :=
  pad S512x128 ![0, 0] ![0, 120] ![0, 0]
    (mulf (Host.reduceAdd (shapeCast S512x8x64 (mulf (transpose S512x512 [1, 0] w transposes_S512x512_S512x512_1_0)
        (broadcastInDim S512x512 ![0, 1] bcast_S1x512_S512x512_0_1 (broadcastInDim S1x512 ![1] bcast_S512_S1x512_1 q)))
        shapeCasts_S512x512_S512x8x64) (constant S_ .f32 0x00000000#32) reducesTo_S512x8x64_S512x8_d2 h_S_)
      (broadcastInDim S512x8 ![] bcast_S_S512x8 (constant S_ .f32 0x3E000000#32)))
    (sitofp .f32 (constantI S_ 32 0#32)) pads_S512x8_S512x128_000_01200 h_S_

/-- An entry of the score matrix at a head's column. -/
theorem headsT_at (w : FVec Ideal S512x512 .f32) (q : FVec Ideal S512 .f32) (k : Fin 512) (i : Fin 8) :
    (headsT w q (ix2 k ⟨i, by omega⟩) : EReal)
      = (∑ d : Fin 64, w (ix2 ⟨i * 64 + d, by omega⟩ k) * q (ix1 ⟨i * 64 + d, by omega⟩)) * Ideal.ofBits .f32 0x3E000000#32 := by
  pointwise [headsT]

end Heads

section Reads

variable (m : (ℓ : Loc nD τ sig) → Buf (Elt Ideal) ℓ) (c : Dev nD) (t : Fin cfg0.N)

/-- The batch entry of a grid point. -/
abbrev bat (t : Fin cfg0.N) : Fin 4 := ⟨(grid0.coords t 0).val, (grid0.coords t 0).isLt⟩

/-- The noise, the lengths and the bias as the kernel is handed them. -/
theorem host_small (b : Fin 4) (l : Fin 1500) : (V m c main_v0 (ix3 b 0 l) : EReal) = m ((c : Thread nD τ).loc main_arg2) (ix2 b l)
    ∧ (V m c main_v1 (ix3 b 0 0) : EReal) = m ((c : Thread nD τ).loc main_arg1) (ix1 b) ∧ (V m c main_v2 (ix2 0 0) : EReal) = m ((c : Thread nD τ).loc main_arg9) ix0 := by
  refine ⟨?_, ?_, ?_⟩ <;> (simp only [V, hostOps0, hostOps0_1, hostOps0_2, List.flatten_cons, List.flatten_nil, List.append_nil, List.cons_append, List.nil_append]; entry_read; pointwise)

set_option maxHeartbeats 1000000 in
/-- The weights as the kernel is handed them: transposed. -/
theorem host_mats (k j : Fin 512) : (V m c main_v12 (ix2 k j) : EReal) = m ((c : Thread nD τ).loc main_arg3) (ix2 j k)
    ∧ (V m c main_v14 (ix2 k j) : EReal) = m ((c : Thread nD τ).loc main_arg5) (ix2 j k)
    ∧ (V m c main_v16 (ix2 k j) : EReal) = m ((c : Thread nD τ).loc main_arg7) (ix2 j k)
    ∧ (V m c main_v17 (ix2 k j) : EReal) = m ((c : Thread nD τ).loc main_arg8) (ix2 j k)
    ∧ (V m c main_v20 (ix2 k j) : EReal) = m ((c : Thread nD τ).loc main_arg12) (ix2 j k)
    ∧ (V m c main_v21 (ix2 k j) : EReal) = m ((c : Thread nD τ).loc main_arg13) (ix2 j k) := by
  refine ⟨?_, ?_, ?_, ?_, ?_, ?_⟩ <;> (simp only [V, hostOps0, hostOps0_1, hostOps0_2, List.flatten_cons, List.flatten_nil, List.append_nil, List.cons_append, List.nil_append]; entry_read; pointwise)

/-- The biases and the normalization's scale and shift as the kernel is handed them: as one-row matrices. -/
theorem host_rows (j : Fin 512) : (V m c main_v13 (ix2 0 j) : EReal) = m ((c : Thread nD τ).loc main_arg4) (ix1 j)
    ∧ (V m c main_v15 (ix2 0 j) : EReal) = m ((c : Thread nD τ).loc main_arg6) (ix1 j)
    ∧ (V m c main_v18 (ix2 0 j) : EReal) = m ((c : Thread nD τ).loc main_arg14) (ix1 j)
    ∧ (V m c main_v19 (ix2 0 j) : EReal) = m ((c : Thread nD τ).loc main_arg15) (ix1 j) := by
  refine ⟨?_, ?_, ?_, ?_⟩ <;> (simp only [V, hostOps0, hostOps0_1, hostOps0_2, List.flatten_cons, List.flatten_nil, List.append_nil, List.cons_append, List.nil_append]; entry_read; pointwise)

/-- The per-head score matrix as the kernel is handed it. -/
theorem host12 : V m c main_v11 = headsT (m ((c : Thread nD τ).loc main_arg11)) (m ((c : Thread nD τ).loc main_arg10)) := by
  simp only [V, hostOps0, hostOps0_1, hostOps0_2, List.flatten_cons, List.flatten_nil, List.append_nil, List.cons_append, List.nil_append]
  entry_read
  rfl

/-- The point's hidden states. -/
theorem read0 (l : Fin 1500) (d : Fin 512) : (iblk m c 0 t (ix3 0 l d) : EReal) = m ((c : Thread nD τ).loc main_arg0) (ix3 (bat t) l d) := by
  blk_ext! [iblk, V, idx t]
/-- The point's noise row, length and bias. -/
theorem read_small (l : Fin 1500) : (iblk m c 1 t (ix3 0 0 l) : EReal) = m ((c : Thread nD τ).loc main_arg2) (ix2 (bat t) l)
    ∧ (iblk m c 2 t (ix3 0 0 0) : EReal) = m ((c : Thread nD τ).loc main_arg1) (ix1 (bat t)) ∧ (iblk m c 3 t (ix2 0 0) : EReal) = m ((c : Thread nD τ).loc main_arg9) ix0 := by
  have h := host_small m c (bat t) l
  refine ⟨Eq.trans ?_ h.1, Eq.trans ?_ h.2.1, Eq.trans ?_ h.2.2⟩ <;> blk_ext [iblk, idx t]

set_option maxHeartbeats 1000000 in
/-- Every point reads the whole of each weight. -/
theorem read_mats (k j : Fin 512) : (iblk m c 4 t (ix2 k j) : EReal) = m ((c : Thread nD τ).loc main_arg3) (ix2 j k)
    ∧ (iblk m c 6 t (ix2 k j) : EReal) = m ((c : Thread nD τ).loc main_arg5) (ix2 j k)
    ∧ (iblk m c 8 t (ix2 k j) : EReal) = m ((c : Thread nD τ).loc main_arg7) (ix2 j k)
    ∧ (iblk m c 9 t (ix2 k j) : EReal) = m ((c : Thread nD τ).loc main_arg8) (ix2 j k)
    ∧ (iblk m c 13 t (ix2 k j) : EReal) = m ((c : Thread nD τ).loc main_arg12) (ix2 j k)
    ∧ (iblk m c 14 t (ix2 k j) : EReal) = m ((c : Thread nD τ).loc main_arg13) (ix2 j k) := by
  have h := host_mats m c k j
  refine ⟨Eq.trans ?_ h.1, Eq.trans ?_ h.2.1, Eq.trans ?_ h.2.2.1, Eq.trans ?_ h.2.2.2.1, Eq.trans ?_ h.2.2.2.2.1,
    Eq.trans ?_ h.2.2.2.2.2⟩ <;> blk_ext [iblk, idx t]

/-- Every point reads the whole of each row. -/
theorem read_rows (j : Fin 512) : (iblk m c 5 t (ix2 0 j) : EReal) = m ((c : Thread nD τ).loc main_arg4) (ix1 j)
    ∧ (iblk m c 7 t (ix2 0 j) : EReal) = m ((c : Thread nD τ).loc main_arg6) (ix1 j)
    ∧ (iblk m c 10 t (ix2 0 j) : EReal) = m ((c : Thread nD τ).loc main_arg14) (ix1 j)
    ∧ (iblk m c 11 t (ix2 0 j) : EReal) = m ((c : Thread nD τ).loc main_arg15) (ix1 j) := by
  have h := host_rows m c j
  refine ⟨Eq.trans ?_ h.1, Eq.trans ?_ h.2.1, Eq.trans ?_ h.2.2.1, Eq.trans ?_ h.2.2.2⟩ <;> blk_ext [iblk, idx t]

/-- Every point reads the whole of the per-head score matrix. -/
theorem read12 (k : Fin 512) (j : Fin 128) : (iblk m c 12 t (ix2 k j) : EReal) = headsT (m ((c : Thread nD τ).loc main_arg11)) (m ((c : Thread nD τ).loc main_arg10)) (ix2 k j) := by
  rw [← host12 m c]
  blk_ext [iblk, idx t]

end Reads

end Cert.KernelIdeal.Gen

end
-- ==== Proof.Cumsum.lean ====
/- The reference's running sum of a row, read at an index. -/
module

public import proofs.«01_k».proof.Proof.Prefix
public import Idealize.ShloMosaic.Lib.Routing.Ops

@[expose] public section

set_option maxRecDepth 16384

noncomputable section

namespace Cert.Pool

open Idealize.ShloMosaic Idealize.ShloMosaic.Pointwise

/-- A left fold that adds is the start plus the sum. -/
theorem foldl_add {ι : Type*} (g : ι → EReal) (l : List ι) (z : EReal) :
    l.foldl (fun r n => r + g n) z = z + (l.map g).sum := by
  induction l generalizing z with
  | nil => simp
  | cons a l ih => rw [List.foldl_cons, ih, List.map_cons, List.sum_cons, add_assoc]

/-- Of a window of `N` entries ending at `j`, those before the start of the row count zero. -/
theorem sum_shifted (f : ℕ → EReal) (N j : ℕ) (hj : j ≤ N) :
    ∑ w ∈ Finset.range (N + 1), (if N ≤ j + w then f (j + w - N) else 0) = ∑ i ∈ Finset.range (j + 1), f i := by
  have h1 : N + 1 = (N - j) + (j + 1) := by omega
  rw [h1, Finset.sum_range_add]
  rw [Finset.sum_eq_zero (s := Finset.range (N - j)) fun w hw => if_neg (by have := Finset.mem_range.mp hw; omega), zero_add]
  refine Finset.sum_congr rfl fun i hi => ?_
  rw [if_pos (by omega)]
  congr 1; omega

/-- Entry `j` of the running sum of a row is the sum of the entries up to `j`. -/
theorem cumsum_at (x : FVec Ideal ⟨2, ![4, 1500]⟩ .f32) (init : FVec Ideal ⟨0, ![]⟩ .f32) (hinit : ∀ i, init i = 0)
    (h : (⟨2, ![4, 1500]⟩ : Shape).ReduceWindows ![1, 1500] ![1, 1] ![0, 1499] ![0, 0] ⟨2, ![4, 1500]⟩)
    (hu : 0 < (⟨0, ![]⟩ : Shape).numel) (b : Fin 4) (j : Fin 1500) :
    Host.reduceWindowAdd ![1, 1500] ![1, 1] ![0, 1499] ![0, 0] x init h hu (ix2 b j)
      = ∑ i ∈ Finset.range (j + 1), ext (fun l => x (ix2 b l)) i := by
  unfold Host.reduceWindowAdd
  rw [Ideal.hostReduceWindowAdd_def, Ideal.hostReduceWindowAdd, Host.reduceWindow, hinit]
  dsimp only
  rw [foldl_add, zero_add, ← sum_shifted (ext fun l => x (ix2 b l)) 1499 j (by omega),
    ← Fin.sum_univ_eq_sum_range (fun w => if 1499 ≤ j.val + w then ext (fun l => x (ix2 b l)) (j.val + w - 1499) else 0),
    ← List.ofFn_eq_map, List.sum_ofFn]
  refine Fintype.sum_equiv (finCongr (Routing.numel2 1500)) _ _ fun n => ?_
  have hs := Routing.symm2 (N := 1500) n
  have hw0 : ((Routing.shape2 1 1500).rowMajor.symm n 0).val = 0 := by rw [hs]; rfl
  have hw1 : ((Routing.shape2 1 1500).rowMajor.symm n 1).val = n.val := by rw [hs]; rfl
  have hn : n.val < 1500 := (n.cast (Routing.numel2 1500)).isLt
  have hj := j.isLt
  have hb := b.isLt
  have e1 : (finCongr (Routing.numel2 1500) n).val = n.val := rfl
  rw [e1]
  by_cases hc : 1499 ≤ j.val + n.val
  · rw [if_pos hc, ext_lt _ _ (by omega), dif_pos]
    · refine congrArg x (funext fun a => Fin.ext ?_)
      match a with
      | ⟨0, _⟩ =>
        show b.val * 1 + ((Routing.shape2 1 1500).rowMajor.symm n 0).val - 0 = b.val
        rw [hw0]; omega
      | ⟨1, _⟩ =>
        show j.val * 1 + ((Routing.shape2 1 1500).rowMajor.symm n 1).val - 1499 = j.val + n.val - 1499
        rw [hw1]; omega
    · intro a
      match a with
      | ⟨0, _⟩ =>
        show 0 ≤ b.val * 1 + ((Routing.shape2 1 1500).rowMajor.symm n 0).val
          ∧ b.val * 1 + ((Routing.shape2 1 1500).rowMajor.symm n 0).val - 0 < 4
        rw [hw0]; omega
      | ⟨1, _⟩ =>
        show 1499 ≤ j.val * 1 + ((Routing.shape2 1 1500).rowMajor.symm n 1).val
          ∧ j.val * 1 + ((Routing.shape2 1 1500).rowMajor.symm n 1).val - 1499 < 1500
        rw [hw1]; omega
  · rw [if_neg hc, dif_neg]
    intro ha
    have h1 := (ha 1).1
    change 1499 ≤ j.val * 1 + ((Routing.shape2 1 1500).rowMajor.symm n 1).val at h1
    rw [hw1] at h1
    omega

end Cert.Pool

end
-- ==== Proof.RefBound.lean ====
/- The reference's boundary terms read at an index: cosine similarity of neighbouring tokens, the draw, the end of the
   sequence, the segment of each token. -/
module

public import proofs.«01_k».proof.Proof.Spec
public import proofs.«01_k».proof.Proof.Cumsum
public import Idealize.ShloMosaic.Lib.Tactic.CleanTypes
public import proofs.«01_k».proof.Proof.Gen.ReferenceIdeal.Run

@[expose] public section

set_option maxRecDepth 16384

noncomputable section

namespace Cert.ReferenceIdeal.Value

open Idealize.ShloMosaic Idealize.ShloMosaic.Pointwise Cert.Pool Cert.ReferenceIdeal.Gen WordCmp

/-! ## Tables read from arrays -/

/-- A matrix stored output coordinate first, as a table. -/
abbrev mat (x : FVec Ideal S512x512 .f32) : Tab 512 512 := fun k j => x (ix2 j k)
/-- A vector as a row. -/
abbrev vec (x : FVec Ideal S512 .f32) : Row 512 := fun k => x (ix1 k)

/-! ## The encoder -/

/-- Rows normalized, as the reference writes it. -/
def nrmT (x : FVec Ideal S4x1499x512 .f32) : FVec Ideal S4x1499x512 .f32 :=
  Host.divf x (broadcastInDim S4x1499x512 ![0, 1, 2] bcast_S4x1499x1_S4x1499x512_0_1_2
    (maximumf (Host.sqrt (broadcastInDim S4x1499x1 ![0, 1] bcast_S4x1499_S4x1499x1_0_1
      (Host.reduceAdd (mulf x x) (constant S_ .f32 0x00000000#32) reducesTo_S4x1499x512_S4x1499_d2 h_S_)))
      (broadcastInDim S4x1499x1 ![] bcast_S_S4x1499x1 (constant S_ .f32 0x322BCC77#32))))

/-- Every row comes out normalized. -/
theorem nrmT_at (x : FVec Ideal S4x1499x512 .f32) (b : Fin 4) (l : Fin 1499) (d : Fin 512) :
    nrmT x (ix3 b l d) = unit (fun k => x (ix3 b l k)) d := by
  unfold nrmT
  pointwise
  rfl

/-- The first layer on the normalized rows, as the reference writes it. -/
def hidT (x : FVec Ideal S4x1499x512 .f32) (w1 : FVec Ideal S512x512 .f32) (b1 : FVec Ideal S512 .f32) :
    FVec Ideal S4x1499x512 .f32 :=
  addf (Host.dotGeneral dot_S4x1499x512_S512x512_S4x1499x512_2_0_01_1_n_n none (nrmT x)
      (transpose S512x512 [1, 0] w1 transposes_S512x512_S512x512_1_0))
    (broadcastInDim S4x1499x512 ![0, 1, 2] bcast_S1x1x512_S4x1499x512_0_1_2
      (broadcastInDim S1x1x512 ![2] bcast_S512_S1x1x512_2 b1))

/-- An entry of the encoder's hidden layer before its activation. -/
theorem hidT_at (x : FVec Ideal S4x1499x512 .f32) (w1 : FVec Ideal S512x512 .f32) (b1 : FVec Ideal S512 .f32)
    (b : Fin 4) (l : Fin 1499) (d : Fin 512) :
    hidT x w1 b1 (ix3 b l d) = lin (mat w1) (unit fun k => x (ix3 b l k)) d + vec b1 d := by
  unfold hidT
  pointwise [nrmT_at]
  rfl

/-- The whole network plus its input, as the reference writes it. -/
def feedT (x : FVec Ideal S4x1499x512 .f32) (w1 : FVec Ideal S512x512 .f32) (b1 : FVec Ideal S512 .f32)
    (w2 : FVec Ideal S512x512 .f32) (b2 : FVec Ideal S512 .f32) : FVec Ideal S4x1499x512 .f32 :=
  addf (addf (Host.dotGeneral dot_S4x1499x512_S512x512_S4x1499x512_2_0_01_1_n_n none
      (mulf (mulf (broadcastInDim S4x1499x512 ![] bcast_S_S4x1499x512 (constant S_ .f32 0x3F000000#32)) (hidT x w1 b1))
        (Host.erfc (mulf (Host.negf (hidT x w1 b1))
          (broadcastInDim S4x1499x512 ![] bcast_S_S4x1499x512 (constant S_ .f32 0x3F3504F3#32)))))
      (transpose S512x512 [1, 0] w2 transposes_S512x512_S512x512_1_0))
    (broadcastInDim S4x1499x512 ![0, 1, 2] bcast_S1x1x512_S4x1499x512_0_1_2
      (broadcastInDim S1x1x512 ![2] bcast_S512_S1x1x512_2 b2))) (nrmT x)

/-- An entry of the encoder's output before its normalization. -/
theorem feedT_at (x : FVec Ideal S4x1499x512 .f32) (w1 : FVec Ideal S512x512 .f32) (b1 : FVec Ideal S512 .f32)
    (w2 : FVec Ideal S512x512 .f32) (b2 : FVec Ideal S512 .f32) (b : Fin 4) (l : Fin 1499) (d : Fin 512) :
    feedT x w1 b1 w2 b2 (ix3 b l d) = feed (mat w1) (vec b1) (mat w2) (vec b2) (fun k => x (ix3 b l k)) d := by
  unfold feedT
  pointwise [hidT_at, nrmT_at]
  simp only [gelu_erfc]
  rfl

variable (V0 : Valuation τ sig (Elt Ideal))

/-- The hidden rows of entry `b`. -/
abbrev hid (b : Fin 4) : Tab 1500 512 := fun l d => (V0 (Proc.devRef .tc main_arg0) : FVec Ideal S4x1500x512 .f32) (ix3 b l d)
/-- The length of entry `b`. -/
abbrev len (b : Fin 4) : EReal := (V0 (Proc.devRef .tc main_arg1) : FVec Ideal S4 .f32) (ix1 b)
/-- The noise of entry `b`. -/
abbrev noise (b : Fin 4) : Row 1500 := fun l => (V0 (Proc.devRef .tc main_arg2) : FVec Ideal S4x1500 .f32) (ix2 b l)
/-- The bias of the similarities. -/
abbrev bias : EReal := (V0 (Proc.devRef .tc main_arg9) : FVec Ideal S_ .f32) ix0

/-- Token `l` of entry `b`, encoded. -/
abbrev code (b : Fin 4) (l : Fin 1500) : Row 512 :=
  enc (mat (V0 (Proc.devRef .tc main_arg3))) (vec (V0 (Proc.devRef .tc main_arg4)))
    (mat (V0 (Proc.devRef .tc main_arg5))) (vec (V0 (Proc.devRef .tc main_arg6))) (hid V0 b l)

/-- The similarity of tokens `l` and `l + 1`. -/
def sim (b : Fin 4) (l : ℕ) : EReal :=
  if h : l < 1499 then
    ∑ j, lin (mat (V0 (Proc.devRef .tc main_arg7))) (code V0 b ⟨l, by omega⟩) j
      * lin (mat (V0 (Proc.devRef .tc main_arg8))) (code V0 b ⟨l + 1, by omega⟩) j
  else 0

/-- The encoder's output on the left tokens. -/
theorem v26_eq : res_main_v26 V0 = feedT (res_main_v0 V0) (V0 (Proc.devRef .tc main_arg3)) (V0 (Proc.devRef .tc main_arg4))
    (V0 (Proc.devRef .tc main_arg5)) (V0 (Proc.devRef .tc main_arg6)) := rfl

/-- The encoder's output on the right tokens. -/
theorem v63_eq : res_main_v63 V0 = feedT (res_main_v37 V0) (V0 (Proc.devRef .tc main_arg3)) (V0 (Proc.devRef .tc main_arg4))
    (V0 (Proc.devRef .tc main_arg5)) (V0 (Proc.devRef .tc main_arg6)) := rfl

/-- The normalized code of the left token of a pair. -/
theorem q_at (b : Fin 4) (l : Fin 1499) (d : Fin 512) :
    nrmT (res_main_v26 V0) (ix3 b l d) = code V0 b ⟨l, by omega⟩ d := by
  rw [nrmT_at]
  simp only [v26_eq, feedT_at]
  have : (fun k => res_main_v0 V0 (ix3 b l k)) = hid V0 b ⟨l, by omega⟩ := by
    funext k
    unfold res_main_v0
    clean_types
    pointwise
  rw [this]; rfl

/-- The normalized code of the right token of a pair. -/
theorem k_at (b : Fin 4) (l : Fin 1499) (d : Fin 512) :
    nrmT (res_main_v63 V0) (ix3 b l d) = code V0 b ⟨l + 1, by omega⟩ d := by
  rw [nrmT_at]
  simp only [v63_eq, feedT_at]
  have : (fun k => res_main_v37 V0 (ix3 b l k)) = hid V0 b ⟨l + 1, by omega⟩ := by
    funext k
    unfold res_main_v37
    clean_types
    pointwise
    simp only [Nat.add_comm 1]
  rw [this]; rfl

/-- The similarities of the rows of `q` and `k`, as the reference writes them. -/
def simT (q k : FVec Ideal S4x1499x512 .f32) (wq wk : FVec Ideal S512x512 .f32) : FVec Ideal S4x1499 .f32 :=
  Host.reduceAdd (mulf
    (Host.dotGeneral dot_S4x1499x512_S512x512_S4x1499x512_2_0_01_1_n_n none (nrmT q)
      (transpose S512x512 [1, 0] wq transposes_S512x512_S512x512_1_0))
    (Host.dotGeneral dot_S4x1499x512_S512x512_S4x1499x512_2_0_01_1_n_n none (nrmT k)
      (transpose S512x512 [1, 0] wk transposes_S512x512_S512x512_1_0)))
    (constant S_ .f32 0x00000000#32) reducesTo_S4x1499x512_S4x1499_d2 h_S_

/-- The similarities the reference computes. -/
abbrev simV : FVec Ideal S4x1499 .f32 :=
  simT (res_main_v26 V0) (res_main_v63 V0) (V0 (Proc.devRef .tc main_arg7)) (V0 (Proc.devRef .tc main_arg8))

/-- The similarity of two neighbouring tokens. -/
theorem simT_at (b : Fin 4) (l : Fin 1499) : simV V0 (ix2 b l) = sim V0 b l := by
  unfold simV simT
  pointwise [q_at, k_at]
  rw [sim, dif_pos l.2]
  rfl

/-- The clipped probabilities, as the reference writes them. -/
def probT (s : FVec Ideal S4x1499 .f32) (sb : FVec Ideal S_ .f32) : FVec Ideal S4x1500 .f32 :=
  minimumf (broadcastInDim S4x1500 ![] bcast_S_S4x1500 (id (constant S_ .f32 0x3F7FFFFE#32)))
    (maximumf (broadcastInDim S4x1500 ![] bcast_S_S4x1500 (id (constant S_ .f32 0x34000000#32)))
      (pad S4x1500 ![0, 0] ![0, 1] ![0, 0]
        (minimumf (broadcastInDim S4x1499 ![] bcast_S_S4x1499 (id (constant S_ .f32 0x3F800000#32)))
          (maximumf (broadcastInDim S4x1499 ![] bcast_S_S4x1499 (id (constant S_ .f32 0x00000000#32)))
            (mulf (subf (broadcastInDim S4x1499 ![] bcast_S_S4x1499 (constant S_ .f32 0x3F800000#32))
              (addf s (broadcastInDim S4x1499 ![] bcast_S_S4x1499 sb)))
              (broadcastInDim S4x1499 ![] bcast_S_S4x1499 (constant S_ .f32 0x3F000000#32)))))
        (sitofp .f32 (constantI S_ 32 0#32)) pads_S4x1499_S4x1500_000_010 h_S_))

/-- The reference's probabilities are those of its similarities. -/
theorem v84_eq : res_main_v84 V0 = probT (simV V0) (V0 (Proc.devRef .tc main_arg9)) := rfl

/-- The clipped boundary probability of token `l`. -/
theorem v84_at (b : Fin 4) (l : Fin 1500) : res_main_v84 V0 (ix2 b l) = pRow (sim V0 b) (bias V0) l := by
  rw [v84_eq]
  unfold probT
  simp only [id_eq]
  pointwise [simT_at]
  have h0 : FloatOps.sitofp (F := Ideal) .f32 0#32 = (0 : EReal) := by
    change (((0#32 : BitVec 32).toInt : ℝ) : EReal) = 0
    simp
  rw [h0, pRow]
  by_cases h : 1499 ≤ l.val
  · rw [if_pos h, dif_neg (by omega)]; rfl
  · rw [if_neg h, dif_pos (by omega)]; rfl

/-- The clipped noise of token `l`. -/
theorem v85_at (b : Fin 4) (l : Fin 1500) : res_main_v85 V0 (ix2 b l) = clip (noise V0 b l) := by
  unfold res_main_v85
  clean_types
  simp only [id_eq]
  pointwise
  rfl

/-- The relaxed draw of token `l`. -/
theorem v100_at (b : Fin 4) (l : Fin 1500) :
    res_main_v100 V0 (ix2 b l) = soft (pRow (sim V0 b) (bias V0) l) (clip (noise V0 b l)) := by
  unfold res_main_v100
  clean_types
  pointwise [v84_at, v85_at]
  rfl

/-- The number of valid tokens, as an integer. -/
abbrev nvalid (b : Fin 4) : ℤ := min (clampI (len V0 b * Ideal.ofBits .f32 0x44BBA000#32) - 1) 1500

/-- The last valid index of an entry, as a signed word. -/
theorem v111_at (b : Fin 4) (h : ((-1000000 : ℝ) : EReal) ≤ len V0 b) :
    (res_main_v111 V0 (ix1 b) : BitVec 32).toInt = nvalid V0 b := by
  unfold res_main_v111
  clean_types
  pointwise
  have h1 := scaled_ge _ h
  rw [← ofBits_1501] at h1
  have h2 := neg_le_clampI _ h1
  have h3 := clampI_le (len V0 b * Ideal.ofBits .f32 0x44BBA000#32)
  rw [minsi_toInt]
  unfold IntOp.subi
  rw [BitVec.toInt_sub]
  change min ((((Ideal.fptosi 32 (len V0 b * Ideal.ofBits .f32 0x44BBA000#32)).toInt) - 1).bmod (2 ^ 32)) 1500 = _
  rw [fptosi_toInt, Int.bmod_eq_of_le (by omega) (by omega)]

/-- The marked draw of token `l`. -/
theorem v132_at (b : Fin 4) (h : ((-1000000 : ℝ) : EReal) ≤ len V0 b) (l : Fin 1500) :
    res_main_v132 V0 (ix2 b l) = ended (sim V0 b) (bias V0) (noise V0 b) (nvalid V0 b) l := by
  unfold res_main_v132 res_main_v128 res_main_v121 res_main_v114 res_main_v104
  clean_types
  simp only [id_eq]
  pointwise [v100_at]
  simp only [uitofp_ofBool, cmpi_slt_eq, cmpi_eq_eq, cmpi_sge_eq, andi_ofBool, ← Bool.decide_and, Pool.select_ofBool, ofNat_eq_iff l (by omega),
    ofNat_toInt l (by omega), v111_at V0 b h]
  rfl

/-- The soft draw is a real number everywhere. -/
theorem v130_at (b : Fin 4) (l : Fin 1500) :
    ∃ r : ℝ, res_main_v130 V0 (ix2 b l) = (r : EReal) := by
  unfold res_main_v130
  clean_types
  simp only [id_eq]
  pointwise [v100_at]
  obtain ⟨r, hr⟩ := logistic_real (Ideal.log (pRow (sim V0 b) (bias V0) l) - Ideal.log1p (-(pRow (sim V0 b) (bias V0) l))
    + Ideal.log (clip (noise V0 b l)) - Ideal.log1p (-(clip (noise V0 b l))))
  change ∃ r : ℝ, Scalar.select _ (1 : EReal) (Scalar.select _ 0 (Ideal.logistic _)) = _
  rw [hr]
  unfold Scalar.select
  split
  · exact ⟨1, rfl⟩
  split
  · exact ⟨0, rfl⟩
  · exact ⟨r, rfl⟩

/-- The boundary at a token. -/
theorem v148_at (b : Fin 4) (h : ((-1000000 : ℝ) : EReal) ≤ len V0 b) (l : Fin 1500) :
    res_main_v148 V0 (ix2 b l) = bound (sim V0 b) (bias V0) (noise V0 b) (nvalid V0 b) l := by
  unfold res_main_v148 res_main_v104
  clean_types
  simp only [id_eq]
  pointwise
  obtain ⟨r, hr⟩ := v130_at V0 b l
  erw [hr]
  rw [sub_add_real]
  simp only [v132_at V0 b h]
  simp only [cmpi_slt_eq, cmpi_eq_eq, cmpi_sge_eq, andi_ofBool, ← Bool.decide_and, Pool.select_ofBool, ofNat_eq_iff l (by omega),
    ofNat_toInt l (by omega), minsi_toInt, v111_at V0 b h]
  rfl

end Cert.ReferenceIdeal.Value

end
-- ==== Proof.RefAttn.lean ====
/- The reference's attention terms read at an index. -/
module

public import proofs.«01_k».proof.Proof.RefBound

@[expose] public section

set_option maxRecDepth 16384

noncomputable section

namespace Cert.ReferenceIdeal.Value

open Idealize.ShloMosaic Idealize.ShloMosaic.Pointwise Cert.Pool Cert.ReferenceIdeal.Gen WordCmp

variable (V0 : Valuation τ sig (Elt Ideal))

/-- An entry of the centred rows. -/
theorem v173_at (b : Fin 4) (l : Fin 1500) (d : Fin 512) :
    res_main_v173 V0 (ix3 b l d) = hid V0 b l d - mean (hid V0 b l) := by
  unfold res_main_v173
  clean_types
  pointwise
  rfl

/-- Token `l`, layer-normalized. -/
abbrev hnorm (b : Fin 4) (l : Fin 1500) : Row 512 :=
  norm (vec (V0 (Proc.devRef .tc main_arg14))) (vec (V0 (Proc.devRef .tc main_arg15))) (hid V0 b l)

/-- An entry of the normalized rows. -/
theorem v189_at (b : Fin 4) (l : Fin 1500) (d : Fin 512) : res_main_v189 V0 (ix3 b l d) = hnorm V0 b l d := by
  unfold res_main_v189
  clean_types
  pointwise [v173_at]
  rfl

/-- Token `l` belongs to segment `s`. -/
abbrev isIn (b : Fin 4) (s l : Fin 1500) : Prop :=
  segOf (bound (sim V0 b) (bias V0) (noise V0 b) (nvalid V0 b)) l = ((s : ℝ) : EReal)
    ∧ (l : ℤ) < clampI (len V0 b * Ideal.ofBits .f32 0x44BB8000#32)

/-- The running sum of the boundaries at a token. -/
theorem cum_at (b : Fin 4) (h : ((-1000000 : ℝ) : EReal) ≤ len V0 b) (j : Fin 1500) :
    Host.reduceWindowAdd ![1, 1500] ![1, 1] ![0, 1499] ![0, 0] (res_main_v148 V0 : FVec Ideal S4x1500 .f32)
      (broadcastInDim S_ ![] bcast_S_S_ (constant (F := Ideal) S_ .f32 0x00000000#32))
      reduceWindows_S4x1500_S4x1500_w1s1p0_0_w1500s1p1499_0 h_S_ (ix2 b j)
      = ∑ i ∈ Finset.range (j + 1), ext (bound (sim V0 b) (bias V0) (noise V0 b) (nvalid V0 b)) i := by
  refine (cumsum_at _ _ (fun i => ?_) _ _ b j).trans ?_
  · pointwise
  · refine Finset.sum_congr rfl fun i _ => ?_
    congr 1
    funext l
    exact v148_at V0 b h l

/-- The mask says which tokens a segment has. -/
theorem v202_at (b : Fin 4) (h : ((-1000000 : ℝ) : EReal) ≤ len V0 b) (z : Fin 1) (s l : Fin 1500) :
    res_main_v202 V0 (ix4 b z s l) = BitVec.ofBool (decide (isIn V0 b s l)) := by
  unfold res_main_v202 res_main_v104
  clean_types
  pointwise [cum_at V0 b h, v148_at V0 b h]
  rw [sitofp_ofNat _ (by omega)]
  simp only [cmpi_slt_eq, andi_ofBool, ← Bool.decide_and, ofNat_toInt _ (show l.val < 2147483648 by omega)]
  have e : (FloatOps.fptosi (F := Ideal) (φ := .f32) 32 (len V0 b * Ideal.ofBits .f32 0x44BB8000#32)).toInt
      = clampI (len V0 b * Ideal.ofBits .f32 0x44BB8000#32) := fptosi_toInt _
  simp only [e]
  rfl

/-- The score of token `l` for head `i`. -/
abbrev score (b : Fin 4) (i : Fin 8) (l : Fin 1500) : EReal :=
  (∑ d : Fin 64, lin (mat (V0 (Proc.devRef .tc main_arg11))) (hnorm V0 b l) ⟨i * 64 + d, by omega⟩
    * vec (V0 (Proc.devRef .tc main_arg10)) ⟨i * 64 + d, by omega⟩) * Ideal.ofBits .f32 0x3E000000#32

/-- The masked score. -/
theorem v204_at (b : Fin 4) (h : ((-1000000 : ℝ) : EReal) ≤ len V0 b) (i : Fin 8) (s l : Fin 1500) :
    res_main_v204 V0 (ix4 b i s l) = (if isIn V0 b s l then score V0 b i l else ⊥ : EReal) := by
  unfold res_main_v204
  clean_types
  simp only [id_eq]
  pointwise [v202_at V0 b h, v189_at]
  rw [ofBits_neg_inf]
  rfl

/-- The maximum of the scores of each segment, as the reference writes it. -/
def maxT (x : FVec Ideal S4x8x1500x1500 .f32) : FVec Ideal S4x8x1500 .f32 :=
  Host.reduce FloatOps.maximumf x (constant S_ .f32 0xFF800000#32) reducesTo_S4x8x1500x1500_S4x8x1500_d3 h_S_

/-- The maximum of a segment's masked scores. -/
theorem maxT_at (x : FVec Ideal S4x8x1500x1500 .f32) (b : Fin 4) (i : Fin 8) (s : Fin 1500) :
    maxT x (ix3 b i s) = Finset.univ.fold max ⊥ fun k => x (ix4 b i s k) := by
  unfold maxT
  pointwise
  rw [ofBits_neg_inf]

/-- The exponentials of the scores shifted by `y`, as the reference writes them. -/
def expT (x : FVec Ideal S4x8x1500x1500 .f32) (y : FVec Ideal S4x8x1500 .f32) : FVec Ideal S4x8x1500x1500 .f32 :=
  Host.exp (subf x (broadcastInDim S4x8x1500x1500 ![0, 1, 2, 3] bcast_S4x8x1500x1_S4x8x1500x1500_0_1_2_3
    (broadcastInDim S4x8x1500x1 ![0, 1, 2] bcast_S4x8x1500_S4x8x1500x1_0_1_2
      (maximumf (broadcastInDim S4x8x1500 ![] bcast_S_S4x8x1500 (constant S_ .f32 0xFF800000#32)) y))))

/-- An entry of the exponentials of the shifted scores. -/
theorem expT_at (x : FVec Ideal S4x8x1500x1500 .f32) (y : FVec Ideal S4x8x1500 .f32) (b : Fin 4) (i : Fin 8)
    (s l : Fin 1500) : expT x y (ix4 b i s l) = Ideal.exp (x (ix4 b i s l) - y (ix3 b i s)) := by
  unfold expT
  pointwise
  rw [ofBits_neg_inf, max_eq_right bot_le]

/-- The reference's exponentials are those of its masked scores. -/
theorem v213_eq : res_main_v213 V0 = expT (res_main_v204 V0) (maxT (res_main_v204 V0)) := rfl

/-- The attention weights from the masks `m` and the exponentials `e`, as the reference writes them. -/
def attT (m : IVec S4x1x1500x1500 1) (e : FVec Ideal S4x8x1500x1500 .f32) : FVec Ideal S4x8x1500x1500 .f32 :=
  select (broadcastInDim S4x8x1500x1500 ![0, 1, 2, 3] bcast_S4x1x1500x1_S4x8x1500x1500_0_1_2_3
      (broadcastInDim S4x1x1500x1 ![0, 1, 2] bcast_S4x1x1500_S4x1x1500x1_0_1_2
        (Host.reduce IntOp.ori m (constantI S_ 1 0#1) reducesTo_S4x1x1500x1500_S4x1x1500_d3 h_S_)))
    (Host.divf e (broadcastInDim S4x8x1500x1500 ![0, 1, 2, 3] bcast_S4x8x1500x1_S4x8x1500x1500_0_1_2_3
      (broadcastInDim S4x8x1500x1 ![0, 1, 2] bcast_S4x8x1500_S4x8x1500x1_0_1_2
        (Host.reduceAdd e (constant S_ .f32 0x00000000#32) reducesTo_S4x8x1500x1500_S4x8x1500_d3 h_S_))))
    (broadcastInDim S4x8x1500x1500 ![] bcast_S_S4x8x1500x1500 (id (constant S_ .f32 0x00000000#32)))

/-- The result from the normalized tokens `hn` and the attention weights `a`, as the reference writes it. -/
def outT (hn : FVec Ideal S4x1500x512 .f32) (wv wo : FVec Ideal S512x512 .f32) (a : FVec Ideal S4x8x1500x1500 .f32) :
    FVec Ideal S4x1500x512 .f32 :=
  Host.dotGeneral dot_S4x1500x512_S512x512_S4x1500x512_2_0_01_1_n_n none
    (shapeCast S4x1500x512 (transpose S4x1500x8x64 [0, 3, 1, 2]
      (Host.dotGeneral (φ₁ := .f32) (φ₂ := .f32) dot_S4x1500x8x64_S4x8x1500x1500_S4x8x64x1500_1_3_3_2_02_01 none
        (shapeCast S4x1500x8x64 (Host.dotGeneral (φ₁ := .f32) (φ₂ := .f32) dot_S4x1500x512_S512x512_S4x1500x512_2_0_01_1_n_n none hn
          (transpose S512x512 [1, 0] wv transposes_S512x512_S512x512_1_0)) shapeCasts_S4x1500x512_S4x1500x8x64) a)
      transposes_S4x8x64x1500_S4x1500x8x64_0_3_1_2) shapeCasts_S4x1500x8x64_S4x1500x512)
    (transpose S512x512 [1, 0] wo transposes_S512x512_S512x512_1_0)

/-- A fold of bits by "or" is one exactly when some bit is. -/
theorem fold_ori {n : ℕ} (p : Fin n → Prop) [DecidablePred p] :
    Finset.univ.fold IntOp.ori (0#1) (fun k => BitVec.ofBool (decide (p k))) = BitVec.ofBool (decide (∃ k, p k)) := by
  have h : ∀ t : Finset (Fin n), t.fold IntOp.ori (0#1) (fun k => BitVec.ofBool (decide (p k)))
      = BitVec.ofBool (decide (∃ k ∈ t, p k)) := by
    intro t
    induction t using Finset.induction with
    | empty => simp
    | insert a t ha ih =>
      rw [Finset.fold_insert ha, ih, ori_ofBool, ← Bool.decide_or]
      congr 2
      simp
  rw [h]; simp

/-- The attention weights where the mask is `p`. -/
theorem attT_at (m : IVec S4x1x1500x1500 1) (e : FVec Ideal S4x8x1500x1500 .f32) (b : Fin 4) (i : Fin 8)
    (s l : Fin 1500) (p : Fin 1500 → Prop) [DecidablePred p] (hm : ∀ k, m (ix4 b 0 s k) = BitVec.ofBool (decide (p k))) :
    attT m e (ix4 b i s l) = if ∃ k, p k then Ideal.div (e (ix4 b i s l)) (∑ k, e (ix4 b i s k)) else 0 := by
  unfold attT
  simp only [id_eq]
  pointwise
  simp only [hm]
  rw [fold_ori, Pool.select_ofBool]

/-- An entry of the result: weighted values of the tokens through the output matrix. -/
theorem outT_at (hn : FVec Ideal S4x1500x512 .f32) (wv wo : FVec Ideal S512x512 .f32) (a : FVec Ideal S4x8x1500x1500 .f32)
    (b : Fin 4) (s : Fin 1500) (n : Fin 512) : outT hn wv wo a (ix3 b s n)
      = ∑ x : Fin 512, (∑ l, lin (mat wv) (fun k => hn (ix3 b l k)) x * a (ix4 b ⟨x / 64, by omega⟩ s l)) * wo (ix2 n x) := by
  unfold outT
  pointwise
  rfl

/-- The reference's result. -/
def out : FVec Ideal S4x1500x512 .f32 :=
  outT (res_main_v189 V0) (V0 (Proc.devRef .tc main_arg12)) (V0 (Proc.devRef .tc main_arg13))
    (attT (res_main_v202 V0) (res_main_v213 V0))

/-- The reference's attention weights times the values, summed: the pooled value. -/
theorem pooled_at (b : Fin 4) (h : ((-1000000 : ℝ) : EReal) ≤ len V0 b) (i : Fin 8) (s : Fin 1500)
    (β : Fin 1500 → ℝ) (hβ : ∀ l, score V0 b i l = β l) (v : Row 1500) :
    ∑ l, v l * attT (res_main_v202 V0) (res_main_v213 V0) (ix4 b i s l) = pooledR (isIn V0 b s) β v 0 := by
  by_cases hM : ∃ l, isIn V0 b s l
  · obtain ⟨g, hg⟩ := masked_max (isIn V0 b s) β hM
    have he : ∀ l, res_main_v213 V0 (ix4 b i s l) = (wt (isIn V0 b s) β g l : EReal) := by
      intro l
      rw [v213_eq, expT_at, maxT_at]
      simp only [v204_at V0 b h, hβ]
      rw [hg, exp_masked]
    rw [← pooled_eq _ _ _ 0 0, pooled_eq _ _ _ 0 g, pooledR]
    refine Finset.sum_congr rfl fun l _ => ?_
    rw [attT_at _ _ b i s l (isIn V0 b s) (fun k => v202_at V0 b h 0 s k), mul_comm]
    simp only [he]
  · rw [pooledR]
    refine Finset.sum_congr rfl fun l _ => ?_
    rw [attT_at _ _ b i s l (isIn V0 b s) (fun k => v202_at V0 b h 0 s k), mul_comm, if_neg hM, if_neg hM]

/-- The reference's result at an index. -/
theorem out_at (b : Fin 4) (h : ((-1000000 : ℝ) : EReal) ≤ len V0 b) (β : Fin 8 → Fin 1500 → ℝ)
    (hβ : ∀ i l, score V0 b i l = β i l) (s : Fin 1500) (n : Fin 512) :
    out V0 (ix3 b s n) = ∑ x : Fin 512, pooledR (isIn V0 b s) (β ⟨x / 64, by omega⟩)
      (fun l => lin (mat (V0 (Proc.devRef .tc main_arg12))) (hnorm V0 b l) x) 0 * mat (V0 (Proc.devRef .tc main_arg13)) x n := by
  unfold out
  rw [outT_at]
  refine Finset.sum_congr rfl fun x _ => ?_
  rw [← pooled_at V0 b h _ s _ (hβ _)]
  have e : ∀ l, (fun k => res_main_v189 V0 (ix3 b l k)) = hnorm V0 b l := fun l => funext fun k => v189_at V0 b l k
  simp only [e]

end Cert.ReferenceIdeal.Value

end
-- ==== Proof.Scores.lean ====
/- Finite inputs give finite scores, and both programs' orders of summation give the same score. -/
module

public import proofs.«01_k».proof.Proof.Spec

@[expose] public section

noncomputable section

namespace Cert.Pool

open Idealize.ShloMosaic

/-- The mean of a row of reals is a real: a fixed positive multiple of the sum. -/
theorem mean_coe (x : Fin 512 → ℝ) : mean (fun k => (x k : EReal)) = (((∑ k, x k) * (1 / 512) : ℝ) : EReal) := by
  unfold mean
  rw [← coe_sum, ofBits_512, Ideal.div_coe (by norm_num)]
  norm_cast

/-- Layer normalization of a row of reals with real scale and shift is a row of reals. -/
theorem norm_real (g b x : Row 512) (hg : ∀ d, ∃ r : ℝ, g d = r) (hb : ∀ d, ∃ r : ℝ, b d = r) (hx : ∀ d, ∃ r : ℝ, x d = r)
    (d : Fin 512) : ∃ r : ℝ, norm g b x d = r := by
  choose g' hg using hg
  choose b' hb using hb
  choose x' hx using hx
  obtain rfl : x = fun k => (x' k : EReal) := funext hx
  obtain ⟨e, he, he'⟩ := ofBits_eps
  unfold norm
  rw [hg, hb, he', mean_coe]
  have h1 : ∀ k, ((x' k : EReal) - (((∑ k, x' k) * (1 / 512) : ℝ) : EReal)) = ((x' k - (∑ k, x' k) * (1 / 512) : ℝ) : EReal) :=
    fun k => (EReal.coe_sub _ _).symm
  simp only [h1, ← EReal.coe_mul]
  rw [mean_coe, ← EReal.coe_add]
  have h2 : 0 < (∑ k, (x' k - (∑ k, x' k) * (1 / 512)) * (x' k - (∑ k, x' k) * (1 / 512))) * (1 / 512) + e := by
    have := Finset.sum_nonneg fun k (_ : k ∈ Finset.univ) => mul_self_nonneg (x' k - (∑ k, x' k) * (1 / 512))
    positivity
  rw [Ideal.sqrt_coe, if_neg (not_lt.2 h2.le), Ideal.div_coe (Real.sqrt_pos.2 h2).ne']
  rw [← EReal.coe_mul, ← EReal.coe_mul, ← EReal.coe_add]
  exact ⟨_, rfl⟩

/-- One head's score of a row: combining the head's key rows first, or projecting the row first, gives the same real. -/
theorem score_real (x : Row 512) (w : Fin 64 → Row 512) (q : Fin 64 → EReal) (hx : ∀ k, ∃ r : ℝ, x k = r)
    (hw : ∀ d k, ∃ r : ℝ, w d k = r) (hq : ∀ d, ∃ r : ℝ, q d = r) :
    ∃ r : ℝ, ∑ k, x k * ((∑ d, w d k * q d) * Ideal.ofBits .f32 0x3E000000#32) = r
      ∧ (∑ d, (∑ k, x k * w d k) * q d) * Ideal.ofBits .f32 0x3E000000#32 = r := by
  choose x' hx using hx
  choose w' hw using hw
  choose q' hq using hq
  refine ⟨∑ k, x' k * ((∑ d, w' d k * q' d) * (1 / 8)), ?_, ?_⟩
  · simp only [hx, hw, hq, ofBits_eighth, ← EReal.coe_mul, ← coe_sum]
  · simp only [hx, hw, hq, ofBits_eighth, ← EReal.coe_mul, ← coe_sum]
    congr 1
    simp only [Finset.sum_mul, Finset.mul_sum]
    rw [Finset.sum_comm]
    refine Finset.sum_congr rfl fun k _ => Finset.sum_congr rfl fun d _ => ?_
    ring

end Cert.Pool

end
-- ==== Proof.Agree.lean ====
/- The kernel's result array is the reference's, for arguments the precondition allows. -/
module

public import proofs.«01_k».proof.Proof.KerReads
public import proofs.«01_k».proof.Proof.RefAttn
public import proofs.«01_k».proof.Proof.Scores

@[expose] public section

set_option maxRecDepth 16384

noncomputable section

namespace Cert.Agree

open Cert.KernelIdeal Cert.KernelIdeal.Gen Cert.Pool Idealize.ShloMosaic Idealize.ShloMosaic.TcCoe Idealize.SL.Sem
open Idealize.ShloMosaic.Pointwise
open Cert.ReferenceIdeal.Value (mat vec hid len noise bias code sim nvalid hnorm isIn score out out_at)

/-- The pooled value depends on the segment, the scores and the values only. -/
theorem pooledR_congr {n : ℕ} (M M' : Fin n → Prop) [DecidablePred M] [DecidablePred M'] (β : Fin n → ℝ) (v v' : Fin n → EReal)
    (hM : ∀ l, M l ↔ M' l) (hv : ∀ l, v l = v' l) (g : ℝ) : pooledR M β v g = pooledR M' β v' g := by
  obtain rfl : M = M' := funext fun l => propext (hM l)
  obtain rfl : v = v' := funext hv
  congr

section Agree

variable (m : (ℓ : Loc nD τ sig) → Buf (Elt Ideal) ℓ) (c : Dev nD)
  (V0 : Valuation Cert.ReferenceIdeal.τ Cert.ReferenceIdeal.sig (Elt Ideal))

/-- The reference is given the kernel's arguments. -/
structure Same : Prop where
  e0 : (V0 (Proc.devRef .tc Cert.ReferenceIdeal.main_arg0) : FVec Ideal S4x1500x512 .f32) = m ((c : Thread nD τ).loc main_arg0)
  e1 : (V0 (Proc.devRef .tc Cert.ReferenceIdeal.main_arg1) : FVec Ideal S4 .f32) = m ((c : Thread nD τ).loc main_arg1)
  e2 : (V0 (Proc.devRef .tc Cert.ReferenceIdeal.main_arg2) : FVec Ideal S4x1500 .f32) = m ((c : Thread nD τ).loc main_arg2)
  e3 : (V0 (Proc.devRef .tc Cert.ReferenceIdeal.main_arg3) : FVec Ideal S512x512 .f32) = m ((c : Thread nD τ).loc main_arg3)
  e4 : (V0 (Proc.devRef .tc Cert.ReferenceIdeal.main_arg4) : FVec Ideal S512 .f32) = m ((c : Thread nD τ).loc main_arg4)
  e5 : (V0 (Proc.devRef .tc Cert.ReferenceIdeal.main_arg5) : FVec Ideal S512x512 .f32) = m ((c : Thread nD τ).loc main_arg5)
  e6 : (V0 (Proc.devRef .tc Cert.ReferenceIdeal.main_arg6) : FVec Ideal S512 .f32) = m ((c : Thread nD τ).loc main_arg6)
  e7 : (V0 (Proc.devRef .tc Cert.ReferenceIdeal.main_arg7) : FVec Ideal S512x512 .f32) = m ((c : Thread nD τ).loc main_arg7)
  e8 : (V0 (Proc.devRef .tc Cert.ReferenceIdeal.main_arg8) : FVec Ideal S512x512 .f32) = m ((c : Thread nD τ).loc main_arg8)
  e9 : (V0 (Proc.devRef .tc Cert.ReferenceIdeal.main_arg9) : FVec Ideal S_ .f32) = m ((c : Thread nD τ).loc main_arg9)
  e10 : (V0 (Proc.devRef .tc Cert.ReferenceIdeal.main_arg10) : FVec Ideal S512 .f32) = m ((c : Thread nD τ).loc main_arg10)
  e11 : (V0 (Proc.devRef .tc Cert.ReferenceIdeal.main_arg11) : FVec Ideal S512x512 .f32) = m ((c : Thread nD τ).loc main_arg11)
  e12 : (V0 (Proc.devRef .tc Cert.ReferenceIdeal.main_arg12) : FVec Ideal S512x512 .f32) = m ((c : Thread nD τ).loc main_arg12)
  e13 : (V0 (Proc.devRef .tc Cert.ReferenceIdeal.main_arg13) : FVec Ideal S512x512 .f32) = m ((c : Thread nD τ).loc main_arg13)
  e14 : (V0 (Proc.devRef .tc Cert.ReferenceIdeal.main_arg14) : FVec Ideal S512 .f32) = m ((c : Thread nD τ).loc main_arg14)
  e15 : (V0 (Proc.devRef .tc Cert.ReferenceIdeal.main_arg15) : FVec Ideal S512 .f32) = m ((c : Thread nD τ).loc main_arg15)

/-- The inputs of the attention are finite and no length is hugely negative. -/
structure Admissible : Prop where
  hidden : ∀ b l d, ∃ r : ℝ, hid V0 b l d = r
  query : ∀ j, ∃ r : ℝ, vec (V0 (Proc.devRef .tc Cert.ReferenceIdeal.main_arg10)) j = r
  key : ∀ k j, ∃ r : ℝ, mat (V0 (Proc.devRef .tc Cert.ReferenceIdeal.main_arg11)) k j = r
  scale : ∀ j, ∃ r : ℝ, vec (V0 (Proc.devRef .tc Cert.ReferenceIdeal.main_arg14)) j = r
  shift : ∀ j, ∃ r : ℝ, vec (V0 (Proc.devRef .tc Cert.ReferenceIdeal.main_arg15)) j = r
  length : ∀ b, ((-1000000 : ℝ) : EReal) ≤ len V0 b

variable (A : Same m c V0) (B : Admissible V0)

include B in
/-- Every score is a real, the same whether the head's key rows are combined with the query first or the row is projected
    first. -/
theorem scores (b : Fin 4) : ∃ β : Fin 8 → Fin 1500 → ℝ, ∀ (i : Fin 8) (l : Fin 1500),
    (∑ k, hnorm V0 b l k * ((∑ d : Fin 64, mat (V0 (Proc.devRef .tc Cert.ReferenceIdeal.main_arg11)) k ⟨i * 64 + d, by omega⟩
        * vec (V0 (Proc.devRef .tc Cert.ReferenceIdeal.main_arg10)) ⟨i * 64 + d, by omega⟩) * Ideal.ofBits .f32 0x3E000000#32)
      = ((β i l : ℝ) : EReal)) ∧ score V0 b i l = ((β i l : ℝ) : EReal) := by
  have h := fun (i : Fin 8) (l : Fin 1500) => score_real (hnorm V0 b l)
    (fun d k => mat (V0 (Proc.devRef .tc Cert.ReferenceIdeal.main_arg11)) k ⟨i * 64 + d, by omega⟩)
    (fun d => vec (V0 (Proc.devRef .tc Cert.ReferenceIdeal.main_arg10)) ⟨i * 64 + d, by omega⟩)
    (fun k => norm_real _ _ _ B.scale B.shift (B.hidden b l) k) (fun d k => B.key _ _) (fun d => B.query _)
  choose β hβ using h
  exact ⟨β, hβ⟩

include A B in
/-- What a grid point leaves in its output block is the reference's result at the block's place. -/
theorem point (t : Fin cfg0.N) (y : S1x1500x512.Idx) (s : Fin 1500) (n : Fin 512) (hs : (y 1 : ℕ) = s) (hn : (y 2 : ℕ) = n) :
    out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
      = out V0 (ix3 (bat t) s n) := by
  obtain ⟨β, hβ⟩ := scores V0 B (bat t)
  have hx0 : ∀ l, slab (iblk m c 0 t) l = hid V0 (bat t) l := fun l => funext fun d =>
    (read0 m c t l d).trans (congrFun A.e0 _).symm
  have hx1 : (fun k => (iblk m c 1 t (ix3 0 0 k) : EReal)) = noise V0 (bat t) := funext fun l =>
    (read_small m c t l).1.trans (congrFun A.e2 _).symm
  have hx2 : (iblk m c 2 t (ix3 0 0 0) : EReal) = len V0 (bat t) := (read_small m c t 0).2.1.trans (congrFun A.e1 _).symm
  have hx3 : (iblk m c 3 t (ix2 0 0) : EReal) = bias V0 := (read_small m c t 0).2.2.trans (congrFun A.e9 _).symm
  have hx4 : tab (iblk m c 4 t) = mat (V0 (Proc.devRef .tc Cert.ReferenceIdeal.main_arg3)) := funext fun k => funext fun j =>
    (read_mats m c t k j).1.trans (congrFun A.e3 _).symm
  have hx6 : tab (iblk m c 6 t) = mat (V0 (Proc.devRef .tc Cert.ReferenceIdeal.main_arg5)) := funext fun k => funext fun j =>
    (read_mats m c t k j).2.1.trans (congrFun A.e5 _).symm
  have hx8 : tab (iblk m c 8 t) = mat (V0 (Proc.devRef .tc Cert.ReferenceIdeal.main_arg7)) := funext fun k => funext fun j =>
    (read_mats m c t k j).2.2.1.trans (congrFun A.e7 _).symm
  have hx9 : tab (iblk m c 9 t) = mat (V0 (Proc.devRef .tc Cert.ReferenceIdeal.main_arg8)) := funext fun k => funext fun j =>
    (read_mats m c t k j).2.2.2.1.trans (congrFun A.e8 _).symm
  have hx13 : tab (iblk m c 13 t) = mat (V0 (Proc.devRef .tc Cert.ReferenceIdeal.main_arg12)) := funext fun k => funext fun j =>
    (read_mats m c t k j).2.2.2.2.1.trans (congrFun A.e12 _).symm
  have hx14 : tab (iblk m c 14 t) = mat (V0 (Proc.devRef .tc Cert.ReferenceIdeal.main_arg13)) := funext fun k => funext fun j =>
    (read_mats m c t k j).2.2.2.2.2.trans (congrFun A.e13 _).symm
  have hx5 : row (iblk m c 5 t) = vec (V0 (Proc.devRef .tc Cert.ReferenceIdeal.main_arg4)) := funext fun j =>
    (read_rows m c t j).1.trans (congrFun A.e4 _).symm
  have hx7 : row (iblk m c 7 t) = vec (V0 (Proc.devRef .tc Cert.ReferenceIdeal.main_arg6)) := funext fun j =>
    (read_rows m c t j).2.1.trans (congrFun A.e6 _).symm
  have hx10 : row (iblk m c 10 t) = vec (V0 (Proc.devRef .tc Cert.ReferenceIdeal.main_arg14)) := funext fun j =>
    (read_rows m c t j).2.2.1.trans (congrFun A.e14 _).symm
  have hx11 : row (iblk m c 11 t) = vec (V0 (Proc.devRef .tc Cert.ReferenceIdeal.main_arg15)) := funext fun j =>
    (read_rows m c t j).2.2.2.trans (congrFun A.e15 _).symm
  have hx12 : ∀ (k : Fin 512) (i : Fin 8), tab (iblk m c 12 t) k ⟨i, by omega⟩
      = (∑ d : Fin 64, mat (V0 (Proc.devRef .tc Cert.ReferenceIdeal.main_arg11)) k ⟨i * 64 + d, by omega⟩
        * vec (V0 (Proc.devRef .tc Cert.ReferenceIdeal.main_arg10)) ⟨i * 64 + d, by omega⟩) * Ideal.ofBits .f32 0x3E000000#32 := fun k i => by
    rw [A.e11, A.e10]
    exact (read12 m c t k ⟨i, by omega⟩).trans (headsT_at _ _ k i)
  have hl : ((-1000000 : ℝ) : EReal) ≤ len V0 (bat t) := B.length _
  refine Eq.trans (out_entry _ _ _ _ _ _ _ _ _ _ _ _ _ _ _ (by rw [hx2]; exact hl) (sim V0 (bat t)) (fun l h => by
      rw [hx4, hx5, hx6, hx7, hx8, hx9, hx0, hx0, sim, dif_pos h]) β (fun i l => by
      rw [← (hβ i l).1, hx10, hx11, hx0, lin]
      exact Finset.sum_congr rfl fun k _ => by rw [hx12]) c t y s n hs hn)
    (Eq.trans ?_ (out_at V0 (bat t) hl β (fun i l => (hβ i l).2) s n).symm)
  refine Finset.sum_congr rfl fun x _ => ?_
  rw [hx14]
  refine congrArg (· * _) (pooledR_congr _ _ _ _ _ (fun l => ?_) (fun l => ?_) _)
  · rw [hx1, hx2, hx3]
  · rw [hx13, hx10, hx11, hx0]

include A B in
/-- The kernel's result array is the reference's result. -/
theorem final : (dats m 0 c).arrAt 15 cfg0.N = out V0 := by
  refine (dats m 0 c).arrAt_eq_of_covers 15 _ (by decide +kernel) fun t _ y => ?_
  blk_simp
  rw [after0_15]
  refine (point m c V0 A B t y (y 1) (y 2) rfl rfl).trans (congrArg (out V0) ?_)
  blk_ext [idx t]

end Agree

end Cert.Agree

end
-- ==== Proof.PreUnpack.lean ====
/- What the precondition says of the arguments: the attention's inputs are finite and no length is hugely negative. -/
module

public import proofs.«01_k».proof.Proof.Spec
public import proofs.«01_k».proof.Pre_admissible
public import Idealize.ShloMosaic.Lib.Pointwise
public import Idealize.ShloMosaic.Lib.ReduceAll
public import Idealize.ShloMosaic.Lib.Affine

@[expose] public section

set_option maxRecDepth 16384

noncomputable section

namespace Cert.Pre_admissible

open Idealize.ShloMosaic Idealize.ShloMosaic.Pointwise

/-- The shape relations the precondition's operations take. -/
theorem facts : Facts where
  bcast_S_S4x1500x512 := by decide +kernel
  reducesTo_S4x1500x512_S_d0_1_2 := by decide +kernel
  h_S_ := by decide +kernel
  bcast_S_S512x512 := by decide +kernel
  reducesTo_S512x512_S_d0_1 := by decide +kernel
  bcast_S_S512 := by decide +kernel
  reducesTo_S512_S_d0 := by decide +kernel
  bcast_S_S4 := by decide +kernel
  reducesTo_S4_S_d0 := by decide +kernel

/-- An array whose entries all have absolute value below infinity is an array of reals. -/
theorem finite_of {s : Shape} (dims : List (Fin s.rank)) (x : FVec Ideal s .f32) (hb : S_.BroadcastsInDim s (![] : Fin 0 → Fin s.rank))
    (hr : s.ReducesTo dims S_) (h0 : 0 < S_.numel)
    (h : Host.reduce IntOp.andi (cmpf .olt (Host.absf x) (broadcastInDim s ![] hb (constant S_ .f32 0x7F800000#32)))
      (constantI S_ 1 1#1) hr h0 ix0 = 1#1) (i : s.Idx) : ∃ r : ℝ, x i = r := by
  have h := Host.reduce_andi_all _ _ _ _ _ h i
  have h : BitVec.ofBool (decide (max (x i) (-x i) < Ideal.ofBits .f32 0x7F800000#32)) = 1#1 := h
  have h : max (x i) (-x i) < Ideal.ofBits .f32 0x7F800000#32 := by
    by_contra hn
    rw [decide_eq_false hn] at h
    exact absurd h (by decide)
  rw [Pool.ofBits_inf] at h
  generalize x i = y at h
  induction y using EReal.rec with
  | bot => simp at h
  | top => simp at h
  | coe r => exact ⟨r, rfl⟩

/-- The precondition, said of the entries. -/
theorem unpack [Facts] (a0 : FVec Ideal S4x1500x512 .f32) (a1 : FVec Ideal S4 .f32) (a2 : FVec Ideal S4x1500 .f32)
    (a3 : FVec Ideal S512x512 .f32) (a4 : FVec Ideal S512 .f32) (a5 : FVec Ideal S512x512 .f32) (a6 : FVec Ideal S512 .f32)
    (a7 a8 : FVec Ideal S512x512 .f32) (a9 : FVec Ideal S_ .f32) (a10 : FVec Ideal S512 .f32)
    (a11 a12 a13 : FVec Ideal S512x512 .f32) (a14 a15 : FVec Ideal S512 .f32)
    (h : fn (F := Ideal) a0 a1 a2 a3 a4 a5 a6 a7 a8 a9 a10 a11 a12 a13 a14 a15 = fun _ => 1#1) :
    (∀ i, ∃ r : ℝ, a0 i = r) ∧ (∀ i, ∃ r : ℝ, a10 i = r) ∧ (∀ i, ∃ r : ℝ, a11 i = r) ∧ (∀ i, ∃ r : ℝ, a14 i = r)
      ∧ (∀ i, ∃ r : ℝ, a15 i = r) ∧ ∀ i, ((-1000000 : ℝ) : EReal) ≤ a1 i := by
  have h := congrFun h ix0
  unfold fn fn_part1 at h
  obtain ⟨h, h1⟩ := IntOp.andi_eq_one.1 h
  obtain ⟨h, h15⟩ := IntOp.andi_eq_one.1 h
  obtain ⟨h, h14⟩ := IntOp.andi_eq_one.1 h
  obtain ⟨h, h10⟩ := IntOp.andi_eq_one.1 h
  obtain ⟨h0, h11⟩ := IntOp.andi_eq_one.1 h
  refine ⟨finite_of _ a0 _ _ _ h0, finite_of _ a10 _ _ _ h10, finite_of _ a11 _ _ _ h11, finite_of _ a14 _ _ _ h14,
    finite_of _ a15 _ _ _ h15, fun i => ?_⟩
  have h := Host.reduce_andi_all _ _ _ _ _ h1 i
  have h : BitVec.ofBool (decide (Ideal.ofBits .f32 0xC9742400#32 ≤ a1 i)) = 1#1 := h
  rw [Pool.ofBits_neg_million] at h
  by_contra hn
  rw [decide_eq_false hn] at h
  exact absurd h (by decide)

end Cert.Pre_admissible

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Agree
public import proofs.«01_k».proof.Proof.PreUnpack

@[expose] public section

set_option maxRecDepth 16384

noncomputable section

namespace Cert.Proof

open Idealize.ShloMosaic Idealize.ShloMosaic.StableHlo Idealize.SL.Sem Idealize.ShloMosaic.Pointwise

/-- From memories that agree on admissible arguments, the two result arrays are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (A : Cert.Agree.Same m c (launchContents m' c))
    (h : Pre_KernelIdeal_admissible (hPre_admissible := Cert.Pre_admissible.facts) m) :
    (Cert.KernelIdeal.Gen.dats m 0 c).arrAt 15 Cert.KernelIdeal.cfg0.N = Cert.ReferenceIdeal.Value.out (launchContents m' c) := by
  haveI := Cert.Pre_admissible.facts
  obtain ⟨h0, h10, h11, h14, h15, h1⟩ := Cert.Pre_admissible.unpack _ _ _ _ _ _ _ _ _ _ _ _ _ _ _ _ (h c)
  refine Cert.Agree.final m c _ A ⟨fun b l d => ?_, fun j => ?_, fun k j => ?_, fun j => ?_, fun j => ?_, fun b => ?_⟩
  · exact (h0 _).imp fun r e => (congrFun A.e0 _).trans e
  · exact (h10 _).imp fun r e => (congrFun A.e10 _).trans e
  · exact (h11 _).imp fun r e => (congrFun A.e11 _).trans e
  · exact (h14 _).imp fun r e => (congrFun A.e14 _).trans e
  · exact (h15 _).imp fun r e => (congrFun A.e15 _).trans e
  · exact (h1 _).trans_eq (congrFun A.e1 _).symm

/-- The idealized kernel and the reference end with the same result. -/
theorem algebraic : algebraic_KernelIdeal_ReferenceIdeal_pre_admissible (hKernelIdeal := Cert.KernelIdeal.Gen.facts)
    (hReferenceIdeal := Cert.ReferenceIdeal.Gen.facts) (hPre_admissible := Cert.Pre_admissible.facts) := by
  intro m g m' g' hpre hagree
  refine ⟨fun c => (Cert.KernelIdeal.Gen.dats m 0 c).arrAt 15 Cert.KernelIdeal.cfg0.N, ?_, ?_⟩
  · run_from (Cert.KernelIdeal.Value.run_blocks m g)
  · refine θ_run_mono (Cert.ReferenceIdeal.Value.run m' g') fun r hr c => ⟨?_, (hr c).2⟩
    refine (hr c).1.trans (Eq.symm (results_eq m m' c ?_ hpre))
    obtain ⟨a0, a1, a2, a3, a4, a5, a6, a7, a8, a9, a10, a11, a12, a13, a14, a15⟩ := hagree c
    exact ⟨a0, a1, a2, a3, a4, a5, a6, a7, a8, a9, a10, a11, a12, a13, a14, a15⟩

/-- The reference runs to the end and leaves its arguments as they were; it declares no semaphore. -/
theorem frame_reference : quiescent_ReferenceIdeal (hReferenceIdeal := Cert.ReferenceIdeal.Gen.facts) := by
  intro m g _
  exact θ_run_mono (Cert.ReferenceIdeal.Value.run m g) fun r hr => ⟨fun c => (hr c).2, sem_eq_zero_of_no_sems (by decide) r.2⟩

/-- Every claim of the certificate. -/
theorem claim : Cert.Claim :=
  ⟨Cert.Kernel.Gen.facts, Cert.KernelIdeal.Gen.facts, Cert.ReferenceIdeal.Gen.facts, Cert.Pre_admissible.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
